-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_and_w1 [hPre_finite_x_and_w1 : Cert.Pre_finite_x_and_w1.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_and_w1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_finite_x_and_w1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_and_w1 [hPre_finite_x_and_w1 : Cert.Pre_finite_x_and_w1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_and_w1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_finite_x_and_w1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite_x_and_w1 [hKernelIdeal : Cert.KernelIdeal.Facts] [hPre_finite_x_and_w1 : Cert.Pre_finite_x_and_w1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_and_w1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite_x_and_w1 [hReferenceIdeal : Cert.ReferenceIdeal.Facts] [hPre_finite_x_and_w1 : Cert.Pre_finite_x_and_w1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_and_w1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  IdealRules.named_const.Statement Cert.KernelIdeal.κ "inv_n" .f32 0x39D1B717#32 ((1 / 2500 : ℝ) : EReal)

def algebraic_KernelIdeal_ReferenceIdeal_pre_finite_x_and_w1 [hKernelIdeal : Cert.KernelIdeal.Facts] [hReferenceIdeal : Cert.ReferenceIdeal.Facts] [hPre_finite_x_and_w1 : Cert.Pre_finite_x_and_w1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_and_w1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v48) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_x_and_w1 : Cert.Pre_finite_x_and_w1.Facts),
    quiescent_Kernel (hKernel := hKernel)
    ∧ quiescent_KernelIdeal (hKernelIdeal := hKernelIdeal)
    ∧ quiescent_KernelIdeal_pre_finite_x_and_w1 (hKernelIdeal := hKernelIdeal) (hPre_finite_x_and_w1 := hPre_finite_x_and_w1)
    ∧ quiescent_ReferenceIdeal (hReferenceIdeal := hReferenceIdeal)
    ∧ quiescent_ReferenceIdeal_pre_finite_x_and_w1 (hReferenceIdeal := hReferenceIdeal) (hPre_finite_x_and_w1 := hPre_finite_x_and_w1)
    ∧ preserves_Kernel_KernelIdeal
    ∧ algebraic_KernelIdeal_ReferenceIdeal_pre_finite_x_and_w1 (hKernelIdeal := hKernelIdeal) (hReferenceIdeal := hReferenceIdeal) (hPre_finite_x_and_w1 := hPre_finite_x_and_w1)
-- ==== Pre_finite_x_and_w1.lean ====
abbrev S16x64x1 : Shape := ⟨3, ![16, 64, 1]⟩
abbrev S16x64x2500 : Shape := ⟨3, ![16, 64, 2500]⟩
abbrev S16x128x1 : Shape := ⟨3, ![16, 128, 1]⟩
abbrev S16x64 : Shape := ⟨2, ![16, 64]⟩
abbrev S32x2x3x3 : Shape := ⟨4, ![32, 2, 3, 3]⟩
abbrev S32 : Shape := ⟨1, ![32]⟩
abbrev S32x32x3x3 : Shape := ⟨4, ![32, 32, 3, 3]⟩
abbrev S33x128 : Shape := ⟨2, ![33, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S65x128 : Shape := ⟨2, ![65, 128]⟩
abbrev S128x2500 : Shape := ⟨2, ![128, 2500]⟩
abbrev S2500 : Shape := ⟨1, ![2500]⟩
abbrev S_ : Shape := ⟨0, ![]⟩
abbrev S32x1x3x3 : Shape := ⟨4, ![32, 1, 3, 3]⟩
abbrev S32x3x3 : Shape := ⟨3, ![32, 3, 3]⟩

class Facts : Prop where
  bcast_S_S16x64x1 : S_.BroadcastsInDim S16x64x1 (![] : Fin 0 → Fin S16x64x1.rank)
  slices_S32x2x3x3_S32x1x3x3_0_1_0_0 : S32x2x3x3.Slices ![0, 1, 0, 0] S32x1x3x3
  shapeCasts_S32x1x3x3_S32x3x3 : S32x1x3x3.ShapeCasts S32x3x3
  bcast_S_S32x3x3 : S_.BroadcastsInDim S32x3x3 (![] : Fin 0 → Fin S32x3x3.rank)

variable [Facts]

def fn {F : FTy → Type} [FloatOps F] (main_arg0 : FVec F S16x64x1 .f32) (main_arg1 : FVec F S16x64x2500 .f32) (main_arg2 : FVec F S16x128x1 .f32) (main_arg3 : FVec F S16x64 .f32) (main_arg4 : FVec F S32x2x3x3 .f32) (main_arg5 : FVec F S32 .f32) (main_arg6 : FVec F S32x32x3x3 .f32) (main_arg7 : FVec F S32 .f32) (main_arg8 : FVec F S33x128 .f32) (main_arg9 : FVec F S128 .f32) (main_arg10 : FVec F S128x128 .f32) (main_arg11 : FVec F S128 .f32) (main_arg12 : FVec F S128x128 .f32) (main_arg13 : FVec F S128 .f32) (main_arg14 : FVec F S128x64 .f32) (main_arg15 : FVec F S64 .f32) (main_arg16 : FVec F S128x64 .f32) (main_arg17 : FVec F S64 .f32) (main_arg18 : FVec F S65x128 .f32) (main_arg19 : FVec F S128 .f32) (main_arg20 : FVec F S128x128 .f32) (main_arg21 : FVec F S128 .f32) (main_arg22 : FVec F S128x2500 .f32) (main_arg23 : FVec F S2500 .f32) (main_arg24 : FVec F S128x2500 .f32) (main_arg25 : FVec F S2500 .f32) : IVec S16x64x1 1 × IVec S32x3x3 1 :=
  let main_v0 : FVec F S16x64x1 .f32 := Host.absf main_arg0
  let main_cst : FVec F S_ .f32 := constant S_ .f32 0x7F800000#32
  let main_v1 : FVec F S16x64x1 .f32 := broadcastInDim S16x64x1 ![] bcast_S_S16x64x1 main_cst
  let main_v2 : IVec S16x64x1 1 := cmpf .olt main_v0 main_v1
  let main_v3 : FVec F S32x1x3x3 .f32 := (extractStridedSlice S32x1x3x3 ![0, 1, 0, 0] · slices_S32x2x3x3_S32x1x3x3_0_1_0_0) main_arg4
  let main_v4 : FVec F S32x3x3 .f32 := shapeCast S32x3x3 main_v3 shapeCasts_S32x1x3x3_S32x3x3
  let main_v5 : FVec F S32x3x3 .f32 := Host.absf main_v4
  let main_cst_0 : FVec F S_ .f32 := constant S_ .f32 0x7F800000#32
  let main_v6 : FVec F S32x3x3 .f32 := broadcastInDim S32x3x3 ![] bcast_S_S32x3x3 main_cst_0
  let main_v7 : IVec S32x3x3 1 := cmpf .olt main_v5 main_v6
  (main_v2, main_v7)
-- ==== Kernel.lean ====
abbrev S16x64x1 : Shape := ⟨3, ![16, 64, 1]⟩
abbrev S16x64x2500 : Shape := ⟨3, ![16, 64, 2500]⟩
abbrev S16x128x1 : Shape := ⟨3, ![16, 128, 1]⟩
abbrev S16x64 : Shape := ⟨2, ![16, 64]⟩
abbrev S32x2x3x3 : Shape := ⟨4, ![32, 2, 3, 3]⟩
abbrev S32 : Shape := ⟨1, ![32]⟩
abbrev S32x32x3x3 : Shape := ⟨4, ![32, 32, 3, 3]⟩
abbrev S33x128 : Shape := ⟨2, ![33, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S65x128 : Shape := ⟨2, ![65, 128]⟩
abbrev S128x2500 : Shape := ⟨2, ![128, 2500]⟩
abbrev S2500 : Shape := ⟨1, ![2500]⟩
abbrev S16x64x50x50 : Shape := ⟨4, ![16, 64, 50, 50]⟩
abbrev S_ : Shape := ⟨0, ![]⟩
abbrev S16x64x52x52 : Shape := ⟨4, ![16, 64, 52, 52]⟩
abbrev S16x64x2704 : Shape := ⟨3, ![16, 64, 2704]⟩
abbrev S16x64x2816 : Shape := ⟨3, ![16, 64, 2816]⟩
abbrev S16x64x1x2816 : Shape := ⟨4, ![16, 64, 1, 2816]⟩
abbrev S16x4x1x16 : Shape := ⟨4, ![16, 4, 1, 16]⟩
abbrev S50x50 : Shape := ⟨2, ![50, 50]⟩
abbrev S52x52 : Shape := ⟨2, ![52, 52]⟩
abbrev S1x2704 : Shape := ⟨2, ![1, 2704]⟩
abbrev S1x2816 : Shape := ⟨2, ![1, 2816]⟩
abbrev S32x1x3x3 : Shape := ⟨4, ![32, 1, 3, 3]⟩
abbrev S32x3x3 : Shape := ⟨3, ![32, 3, 3]⟩
abbrev S32x9 : Shape := ⟨2, ![32, 9]⟩
abbrev S32x1 : Shape := ⟨2, ![32, 1]⟩
abbrev S3x3x32x32 : Shape := ⟨4, ![3, 3, 32, 32]⟩
abbrev S288x32 : Shape := ⟨2, ![288, 32]⟩
abbrev S1x128 : Shape := ⟨2, ![1, 128]⟩
abbrev S16x1x128 : Shape := ⟨3, ![16, 1, 128]⟩
abbrev S1x16x1x2816 : Shape := ⟨4, ![1, 16, 1, 2816]⟩
abbrev S1x1x1x16 : Shape := ⟨4, ![1, 1, 1, 16]⟩
abbrev S1x1x128 : Shape := ⟨3, ![1, 1, 128]⟩
abbrev S9x2704 : Shape := ⟨2, ![9, 2704]⟩
abbrev S32x2704 : Shape := ⟨2, ![32, 2704]⟩
abbrev S1x1x1x2816 : Shape := ⟨4, ![1, 1, 1, 2816]⟩
abbrev S1x2810 : Shape := ⟨2, ![1, 2810]⟩
abbrev S1x1x1x1 : Shape := ⟨4, ![1, 1, 1, 1]⟩
abbrev S1x1 : Shape := ⟨2, ![1, 1]⟩
abbrev S32x53 : Shape := ⟨2, ![32, 53]⟩
abbrev S32x2810 : Shape := ⟨2, ![32, 2810]⟩
abbrev S288x2810 : Shape := ⟨2, ![288, 2810]⟩
abbrev S1x32 : Shape := ⟨2, ![1, 32]⟩
abbrev S1x33 : Shape := ⟨2, ![1, 33]⟩
abbrev S16x33 : Shape := ⟨2, ![16, 33]⟩
abbrev S16x128 : Shape := ⟨2, ![16, 128]⟩
abbrev S16x1x64 : Shape := ⟨3, ![16, 1, 64]⟩
abbrev S1x64 : Shape := ⟨2, ![1, 64]⟩
abbrev S64x128 : Shape := ⟨2, ![64, 128]⟩
abbrev S1x2500 : Shape := ⟨2, ![1, 2500]⟩
abbrev S16x128x2500 : Shape := ⟨3, ![16, 128, 2500]⟩
abbrev S1x1x64 : Shape := ⟨3, ![1, 1, 64]⟩
abbrev S1x128x1 : Shape := ⟨3, ![1, 128, 1]⟩
abbrev S1x128x2500 : Shape := ⟨3, ![1, 128, 2500]⟩
abbrev S128x1 : Shape := ⟨2, ![128, 1]⟩

abbrev nBuf : Space → Nat
  | .hbm => 87
  | .vmem => 45
  | .smem => 0
  | _ => 0

abbrev bufTy : (tb : Table) → Fin (tcTables nBuf tb) → BufTy
  | .hbm, ⟨0, _⟩ => ⟨S16x64x1, .f32⟩
  | .hbm, ⟨1, _⟩ => ⟨S16x64x2500, .f32⟩
  | .hbm, ⟨2, _⟩ => ⟨S16x128x1, .f32⟩
  | .hbm, ⟨3, _⟩ => ⟨S16x64, .f32⟩
  | .hbm, ⟨4, _⟩ => ⟨S32x2x3x3, .f32⟩
  | .hbm, ⟨5, _⟩ => ⟨S32, .f32⟩
  | .hbm, ⟨6, _⟩ => ⟨S32x32x3x3, .f32⟩
  | .hbm, ⟨7, _⟩ => ⟨S32, .f32⟩
  | .hbm, ⟨8, _⟩ => ⟨S33x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S128x64, .f32⟩
  | .hbm, ⟨17, _⟩ => ⟨S64, .f32⟩
  | .hbm, ⟨18, _⟩ => ⟨S65x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x2500, .f32⟩
  | .hbm, ⟨23, _⟩ => ⟨S2500, .f32⟩
  | .hbm, ⟨24, _⟩ => ⟨S128x2500, .f32⟩
  | .hbm, ⟨25, _⟩ => ⟨S2500, .f32⟩
  | .hbm, ⟨26, _⟩ => ⟨S16x64x50x50, .f32⟩
  | .hbm, ⟨27, _⟩ => ⟨S_, .i32⟩
  | .hbm, ⟨28, _⟩ => ⟨S_, .f32⟩
  | .hbm, ⟨29, _⟩ => ⟨S16x64x52x52, .f32⟩
  | .hbm, ⟨30, _⟩ => ⟨S16x64x2704, .f32⟩
  | .hbm, ⟨31, _⟩ => ⟨S_, .i32⟩
  | .hbm, ⟨32, _⟩ => ⟨S_, .f32⟩
  | .hbm, ⟨33, _⟩ => ⟨S16x64x2816, .f32⟩
  | .hbm, ⟨34, _⟩ => ⟨S16x64x1x2816, .f32⟩
  | .hbm, ⟨35, _⟩ => ⟨S16x4x1x16, .f32⟩
  | .hbm, ⟨36, _⟩ => ⟨S_, .f32⟩
  | .hbm, ⟨37, _⟩ => ⟨S50x50, .f32⟩
  | .hbm, ⟨38, _⟩ => ⟨S_, .i32⟩
  | .hbm, ⟨39, _⟩ => ⟨S_, .f32⟩
  | .hbm, ⟨40, _⟩ => ⟨S52x52, .f32⟩
  | .hbm, ⟨41, _⟩ => ⟨S1x2704, .f32⟩
  | .hbm, ⟨42, _⟩ => ⟨S_, .i32⟩
  | .hbm, ⟨43, _⟩ => ⟨S_, .f32⟩
  | .hbm, ⟨44, _⟩ => ⟨S1x2816, .f32⟩
  | .hbm, ⟨45, _⟩ => ⟨S32x1x3x3, .f32⟩
  | .hbm, ⟨46, _⟩ => ⟨S32x3x3, .f32⟩
  | .hbm, ⟨47, _⟩ => ⟨S32x9, .f32⟩
  | .hbm, ⟨48, _⟩ => ⟨S32x9, .bf16⟩
  | .hbm, ⟨49, _⟩ => ⟨S32x1x3x3, .f32⟩
  | .hbm, ⟨50, _⟩ => ⟨S32x3x3, .f32⟩
  | .hbm, ⟨51, _⟩ => ⟨S32x9, .f32⟩
  | .hbm, ⟨52, _⟩ => ⟨S32x9, .bf16⟩
  | .hbm, ⟨53, _⟩ => ⟨S32x1, .f32⟩
  | .hbm, ⟨54, _⟩ => ⟨S3x3x32x32, .f32⟩
  | .hbm, ⟨55, _⟩ => ⟨S288x32, .f32⟩
  | .hbm, ⟨56, _⟩ => ⟨S288x32, .bf16⟩
  | .hbm, ⟨57, _⟩ => ⟨S32x1, .f32⟩
  | .hbm, ⟨58, _⟩ => ⟨S1x128, .f32⟩
  | .hbm, ⟨59, _⟩ => ⟨S1x128, .f32⟩
  | .hbm, ⟨60, _⟩ => ⟨S33x128, .bf16⟩
  | .hbm, ⟨61, _⟩ => ⟨S128x128, .bf16⟩
  | .hbm, ⟨62, _⟩ => ⟨S16x1x128, .f32⟩
  | .hbm, ⟨63, _⟩ => ⟨S16x1x64, .f32⟩
  | .hbm, ⟨64, _⟩ => ⟨S128x128, .bf16⟩
  | .hbm, ⟨65, _⟩ => ⟨S1x128, .f32⟩
  | .hbm, ⟨66, _⟩ => ⟨S128x64, .bf16⟩
  | .hbm, ⟨67, _⟩ => ⟨S1x64, .f32⟩
  | .hbm, ⟨68, _⟩ => ⟨S128x64, .bf16⟩
  | .hbm, ⟨69, _⟩ => ⟨S1x64, .f32⟩
  | .hbm, ⟨70, _⟩ => ⟨S1x128, .f32⟩
  | .hbm, ⟨71, _⟩ => ⟨S1x128, .bf16⟩
  | .hbm, ⟨72, _⟩ => ⟨S64x128, .f32⟩
  | .hbm, ⟨73, _⟩ => ⟨S64x128, .bf16⟩
  | .hbm, ⟨74, _⟩ => ⟨S1x128, .f32⟩
  | .hbm, ⟨75, _⟩ => ⟨S128x128, .bf16⟩
  | .hbm, ⟨76, _⟩ => ⟨S1x128, .f32⟩
  | .hbm, ⟨77, _⟩ => ⟨S128x2500, .bf16⟩
  | .hbm, ⟨78, _⟩ => ⟨S1x2500, .f32⟩
  | .hbm, ⟨79, _⟩ => ⟨S128x2500, .bf16⟩
  | .hbm, ⟨80, _⟩ => ⟨S1x2500, .f32⟩
  | .hbm, ⟨81, _⟩ => ⟨S16x128x2500, .f32⟩
  | .hbm, ⟨82, _⟩ => ⟨S16x128x2500, .f32⟩
  | .hbm, ⟨83, _⟩ => ⟨S16x1x64, .f32⟩
  | .hbm, ⟨84, _⟩ => ⟨S16x1x64, .f32⟩
  | .hbm, ⟨85, _⟩ => ⟨S16x64, .f32⟩
  | .hbm, ⟨86, _⟩ => ⟨S16x64, .f32⟩
  | .local _ .vmem, ⟨0, _⟩ => ⟨S1x16x1x2816, .f32⟩
  | .local _ .vmem, ⟨1, _⟩ => ⟨S1x16x1x2816, .f32⟩
  | .local _ .vmem, ⟨2, _⟩ => ⟨S1x1x1x16, .f32⟩
  | .local _ .vmem, ⟨3, _⟩ => ⟨S1x1x1x16, .f32⟩
  | .local _ .vmem, ⟨4, _⟩ => ⟨S1x2816, .f32⟩
  | .local _ .vmem, ⟨5, _⟩ => ⟨S32x9, .bf16⟩
  | .local _ .vmem, ⟨6, _⟩ => ⟨S32x9, .bf16⟩
  | .local _ .vmem, ⟨7, _⟩ => ⟨S32x1, .f32⟩
  | .local _ .vmem, ⟨8, _⟩ => ⟨S288x32, .bf16⟩
  | .local _ .vmem, ⟨9, _⟩ => ⟨S32x1, .f32⟩
  | .local _ .vmem, ⟨10, _⟩ => ⟨S33x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x64, .f32⟩
  | .local _ .vmem, ⟨19, _⟩ => ⟨S1x1x64, .f32⟩
  | .local _ .vmem, ⟨20, _⟩ => ⟨S1x128x1, .f32⟩
  | .local _ .vmem, ⟨21, _⟩ => ⟨S1x128x1, .f32⟩
  | .local _ .vmem, ⟨22, _⟩ => ⟨S128x128, .bf16⟩
  | .local _ .vmem, ⟨23, _⟩ => ⟨S1x128, .f32⟩
  | .local _ .vmem, ⟨24, _⟩ => ⟨S128x64, .bf16⟩
  | .local _ .vmem, ⟨25, _⟩ => ⟨S1x64, .f32⟩
  | .local _ .vmem, ⟨26, _⟩ => ⟨S128x64, .bf16⟩
  | .local _ .vmem, ⟨27, _⟩ => ⟨S1x64, .f32⟩
  | .local _ .vmem, ⟨28, _⟩ => ⟨S1x128, .bf16⟩
  | .local _ .vmem, ⟨29, _⟩ => ⟨S64x128, .bf16⟩
  | .local _ .vmem, ⟨30, _⟩ => ⟨S1x128, .f32⟩
  | .local _ .vmem, ⟨31, _⟩ => ⟨S128x128, .bf16⟩
  | .local _ .vmem, ⟨32, _⟩ => ⟨S1x128, .f32⟩
  | .local _ .vmem, ⟨33, _⟩ => ⟨S128x2500, .bf16⟩
  | .local _ .vmem, ⟨34, _⟩ => ⟨S1x2500, .f32⟩
  | .local _ .vmem, ⟨35, _⟩ => ⟨S128x2500, .bf16⟩
  | .local _ .vmem, ⟨36, _⟩ => ⟨S1x2500, .f32⟩
  | .local _ .vmem, ⟨37, _⟩ => ⟨S1x128x2500, .f32⟩
  | .local _ .vmem, ⟨38, _⟩ => ⟨S1x128x2500, .f32⟩
  | .local _ .vmem, ⟨39, _⟩ => ⟨S1x128x2500, .f32⟩
  | .local _ .vmem, ⟨40, _⟩ => ⟨S1x128x2500, .f32⟩
  | .local _ .vmem, ⟨41, _⟩ => ⟨S1x1x64, .f32⟩
  | .local _ .vmem, ⟨42, _⟩ => ⟨S1x1x64, .f32⟩
  | .local _ .vmem, ⟨43, _⟩ => ⟨S1x1x64, .f32⟩
  | .local _ .vmem, ⟨44, _⟩ => ⟨S1x1x64, .f32⟩
  | _, _ => ⟨S16x64x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_call0_v0 : Ref sig .tc := ⟨.hbm, 28, rfl⟩
abbrev main_v1 : Ref sig .tc := ⟨.hbm, 29, rfl⟩
abbrev main_v2 : Ref sig .tc := ⟨.hbm, 30, rfl⟩
abbrev main_c_0 : Ref sig .tc := ⟨.hbm, 31, rfl⟩
abbrev main_call1_v0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_c_1 : Ref sig .tc := ⟨.hbm, 38, rfl⟩
abbrev main_call2_v0 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_call3_v0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46_0 : Ref sig .tc := ⟨.hbm, 81, rfl⟩
abbrev main_v46_1 : Ref sig .tc := ⟨.hbm, 82, rfl⟩
abbrev main_v46_2 : Ref sig .tc := ⟨.hbm, 83, rfl⟩
abbrev main_v46_3 : Ref sig .tc := ⟨.hbm, 84, rfl⟩
abbrev main_v47 : Ref sig .tc := ⟨.hbm, 85, rfl⟩
abbrev main_v48 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg17_0 : Ref sig .tc := ⟨.vmem, 36, rfl⟩
abbrev cc1_stg18_0 : Ref sig .tc := ⟨.vmem, 37, rfl⟩
abbrev cc1_stg18_1 : Ref sig .tc := ⟨.vmem, 38, rfl⟩
abbrev cc1_stg19_0 : Ref sig .tc := ⟨.vmem, 39, rfl⟩
abbrev cc1_stg19_1 : Ref sig .tc := ⟨.vmem, 40, rfl⟩
abbrev cc1_stg20_0 : Ref sig .tc := ⟨.vmem, 41, rfl⟩
abbrev cc1_stg20_1 : Ref sig .tc := ⟨.vmem, 42, rfl⟩
abbrev cc1_stg21_0 : Ref sig .tc := ⟨.vmem, 43, rfl⟩
abbrev cc1_stg21_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem16_0 : DmaSem sig := 35
abbrev cc1_sem17_0 : DmaSem sig := 36
abbrev cc1_sem18_0 : DmaSem sig := 37
abbrev cc1_sem18_1 : DmaSem sig := 38
abbrev cc1_sem19_0 : DmaSem sig := 39
abbrev cc1_sem19_1 : DmaSem sig := 40
abbrev cc1_sem20_0 : DmaSem sig := 41
abbrev cc1_sem20_1 : DmaSem sig := 42
abbrev cc1_sem21_0 : DmaSem sig := 43
abbrev cc1_sem21_1 : DmaSem sig := 44

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v1238 : BitVec 1 := Scalar.cmpi .eq arg1 c0_i32
  let v1239 : BitVec 32 := Scalar.extui v1238
  let c0_i32_368 : BitVec 32 := 0#32
  let v1240 : BitVec 1 := Scalar.cmpi .ne v1239 c0_i32_368
  v1240

def k0_cond2 (i : grid0.Coords) : BitVec 1 :=
  let arg1 : BitVec 32 := BitVec.ofNat 32 (i 1).val
  let c0_i32_369 : BitVec 32 := 0#32
  let v1241 : BitVec 1 := Scalar.cmpi .ne arg1 c0_i32_369
  let v1242 : BitVec 32 := Scalar.extui v1241
  let c0_i32_370 : BitVec 32 := 0#32
  let v1243 : BitVec 1 := Scalar.cmpi .ne v1242 c0_i32_370
  v1243

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x9 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x9 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S288x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S33x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_21 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x2500 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x2500 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128x2500 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x2500 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S1x128x2500 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S1x128x2500 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S1x1x64 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S1x1x64 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]
-- ==== KernelIdeal.lean ====
variable {F : FTy → Type} [FloatOps F] [Named F]
def κ : String → Option EReal := fun
  | "inv_n" => some ((1 / 2500 : ℝ) : EReal)
  | _ => none
-- ==== ReferenceIdeal.lean ====
abbrev S16x64x1 : Shape := ⟨3, ![16, 64, 1]⟩
abbrev S16x64x2500 : Shape := ⟨3, ![16, 64, 2500]⟩
abbrev S16x128x1 : Shape := ⟨3, ![16, 128, 1]⟩
abbrev S16x64 : Shape := ⟨2, ![16, 64]⟩
abbrev S32x2x3x3 : Shape := ⟨4, ![32, 2, 3, 3]⟩
abbrev S32 : Shape := ⟨1, ![32]⟩
abbrev S32x32x3x3 : Shape := ⟨4, ![32, 32, 3, 3]⟩
abbrev S33x128 : Shape := ⟨2, ![33, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S65x128 : Shape := ⟨2, ![65, 128]⟩
abbrev S128x2500 : Shape := ⟨2, ![128, 2500]⟩
abbrev S2500 : Shape := ⟨1, ![2500]⟩
abbrev S1024x1 : Shape := ⟨2, ![1024, 1]⟩
abbrev S1024x1x50x50 : Shape := ⟨4, ![1024, 1, 50, 50]⟩
abbrev S1024 : Shape := ⟨1, ![1024]⟩
abbrev S1024x1x1x1 : Shape := ⟨4, ![1024, 1, 1, 1]⟩
abbrev S1024x2x50x50 : Shape := ⟨4, ![1024, 2, 50, 50]⟩
abbrev S_ : Shape := ⟨0, ![]⟩
abbrev S1024x2x52x52 : Shape := ⟨4, ![1024, 2, 52, 52]⟩
abbrev S32x2x1x1 : Shape := ⟨4, ![32, 2, 1, 1]⟩
abbrev S32x2 : Shape := ⟨2, ![32, 2]⟩
abbrev S1024x50x50x32 : Shape := ⟨4, ![1024, 50, 50, 32]⟩
abbrev S1024x32x50x50 : Shape := ⟨4, ![1024, 32, 50, 50]⟩
abbrev S1x32x1x1 : Shape := ⟨4, ![1, 32, 1, 1]⟩
abbrev S1024x32x52x52 : Shape := ⟨4, ![1024, 32, 52, 52]⟩
abbrev S32x32x1x1 : Shape := ⟨4, ![32, 32, 1, 1]⟩
abbrev S32x32 : Shape := ⟨2, ![32, 32]⟩
abbrev S1024x32 : Shape := ⟨2, ![1024, 32]⟩
abbrev S1024x33 : Shape := ⟨2, ![1024, 33]⟩
abbrev S1024x128 : Shape := ⟨2, ![1024, 128]⟩
abbrev S1x128 : Shape := ⟨2, ![1, 128]⟩
abbrev S16x64x128 : Shape := ⟨3, ![16, 64, 128]⟩
abbrev S16x128 : Shape := ⟨2, ![16, 128]⟩
abbrev S1x64 : Shape := ⟨2, ![1, 64]⟩
abbrev S16x1x64 : Shape := ⟨3, ![16, 1, 64]⟩
abbrev S16x128x64 : Shape := ⟨3, ![16, 128, 64]⟩
abbrev S16x128x65 : Shape := ⟨3, ![16, 128, 65]⟩
abbrev S16x128x128 : Shape := ⟨3, ![16, 128, 128]⟩
abbrev S1x1x128 : Shape := ⟨3, ![1, 1, 128]⟩
abbrev S16x128x2500 : Shape := ⟨3, ![16, 128, 2500]⟩
abbrev S1x1x2500 : Shape := ⟨3, ![1, 1, 2500]⟩

abbrev nBuf : Space → Nat
  | .hbm => 255
  | .vmem => 0
  | .smem => 0
  | _ => 0

abbrev hbmTy0_0 (i : Nat) : BufTy := match i % 128 with
  | 0 => ⟨S16x64x1, .f32⟩
  | 1 => ⟨S16x64x2500, .f32⟩
  | 2 => ⟨S16x128x1, .f32⟩
  | 3 => ⟨S16x64, .f32⟩
  | 4 => ⟨S32x2x3x3, .f32⟩
  | 5 => ⟨S32, .f32⟩
  | 6 => ⟨S32x32x3x3, .f32⟩
  | 7 => ⟨S32, .f32⟩
  | 8 => ⟨S33x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x64, .f32⟩
  | 15 => ⟨S64, .f32⟩
  | 16 => ⟨S128x64, .f32⟩
  | 17 => ⟨S64, .f32⟩
  | 18 => ⟨S65x128, .f32⟩
  | 19 => ⟨S128, .f32⟩
  | 20 => ⟨S128x128, .f32⟩
  | 21 => ⟨S128, .f32⟩
  | 22 => ⟨S128x2500, .f32⟩
  | 23 => ⟨S2500, .f32⟩
  | 24 => ⟨S128x2500, .f32⟩
  | 25 => ⟨S2500, .f32⟩
  | 26 => ⟨S1024x1, .f32⟩
  | 27 => ⟨S1024x1x50x50, .f32⟩
  | 28 => ⟨S1024, .f32⟩
  | 29 => ⟨S1024x1x1x1, .f32⟩
  | 30 => ⟨S1024x1x50x50, .f32⟩
  | 31 => ⟨S1024x2x50x50, .f32⟩
  | 32 => ⟨S_, .i32⟩
  | 33 => ⟨S_, .f32⟩
  | 34 => ⟨S1024x2x52x52, .f32⟩
  | 35 => ⟨S32x2x1x1, .f32⟩
  | 36 => ⟨S32x2, .f32⟩
  | 37 => ⟨S1024x2x50x50, .f32⟩
  | 38 => ⟨S1024x50x50x32, .f32⟩
  | 39 => ⟨S1024x32x50x50, .f32⟩
  | 40 => ⟨S32x2x1x1, .f32⟩
  | 41 => ⟨S32x2, .f32⟩
  | 42 => ⟨S1024x2x50x50, .f32⟩
  | 43 => ⟨S1024x50x50x32, .f32⟩
  | 44 => ⟨S1024x32x50x50, .f32⟩
  | 45 => ⟨S1024x32x50x50, .f32⟩
  | 46 => ⟨S32x2x1x1, .f32⟩
  | 47 => ⟨S32x2, .f32⟩
  | 48 => ⟨S1024x2x50x50, .f32⟩
  | 49 => ⟨S1024x50x50x32, .f32⟩
  | 50 => ⟨S1024x32x50x50, .f32⟩
  | 51 => ⟨S1024x32x50x50, .f32⟩
  | 52 => ⟨S32x2x1x1, .f32⟩
  | 53 => ⟨S32x2, .f32⟩
  | 54 => ⟨S1024x2x50x50, .f32⟩
  | 55 => ⟨S1024x50x50x32, .f32⟩
  | 56 => ⟨S1024x32x50x50, .f32⟩
  | 57 => ⟨S1024x32x50x50, .f32⟩
  | 58 => ⟨S32x2x1x1, .f32⟩
  | 59 => ⟨S32x2, .f32⟩
  | 60 => ⟨S1024x2x50x50, .f32⟩
  | 61 => ⟨S1024x50x50x32, .f32⟩
  | 62 => ⟨S1024x32x50x50, .f32⟩
  | 63 => ⟨S1024x32x50x50, .f32⟩
  | 64 => ⟨S32x2x1x1, .f32⟩
  | 65 => ⟨S32x2, .f32⟩
  | 66 => ⟨S1024x2x50x50, .f32⟩
  | 67 => ⟨S1024x50x50x32, .f32⟩
  | 68 => ⟨S1024x32x50x50, .f32⟩
  | 69 => ⟨S1024x32x50x50, .f32⟩
  | 70 => ⟨S32x2x1x1, .f32⟩
  | 71 => ⟨S32x2, .f32⟩
  | 72 => ⟨S1024x2x50x50, .f32⟩
  | 73 => ⟨S1024x50x50x32, .f32⟩
  | 74 => ⟨S1024x32x50x50, .f32⟩
  | 75 => ⟨S1024x32x50x50, .f32⟩
  | 76 => ⟨S32x2x1x1, .f32⟩
  | 77 => ⟨S32x2, .f32⟩
  | 78 => ⟨S1024x2x50x50, .f32⟩
  | 79 => ⟨S1024x50x50x32, .f32⟩
  | 80 => ⟨S1024x32x50x50, .f32⟩
  | 81 => ⟨S1024x32x50x50, .f32⟩
  | 82 => ⟨S32x2x1x1, .f32⟩
  | 83 => ⟨S32x2, .f32⟩
  | 84 => ⟨S1024x2x50x50, .f32⟩
  | 85 => ⟨S1024x50x50x32, .f32⟩
  | 86 => ⟨S1024x32x50x50, .f32⟩
  | 87 => ⟨S1024x32x50x50, .f32⟩
  | 88 => ⟨S1x32x1x1, .f32⟩
  | 89 => ⟨S1024x32x50x50, .f32⟩
  | 90 => ⟨S1024x32x50x50, .f32⟩
  | 91 => ⟨S_, .f32⟩
  | 92 => ⟨S1024x32x50x50, .f32⟩
  | 93 => ⟨S1024x32x50x50, .f32⟩
  | 94 => ⟨S_, .i32⟩
  | 95 => ⟨S_, .f32⟩
  | 96 => ⟨S1024x32x52x52, .f32⟩
  | 97 => ⟨S32x32x1x1, .f32⟩
  | 98 => ⟨S32x32, .f32⟩
  | 99 => ⟨S1024x32x50x50, .f32⟩
  | 100 => ⟨S1024x50x50x32, .f32⟩
  | 101 => ⟨S1024x32x50x50, .f32⟩
  | 102 => ⟨S32x32x1x1, .f32⟩
  | 103 => ⟨S32x32, .f32⟩
  | 104 => ⟨S1024x32x50x50, .f32⟩
  | 105 => ⟨S1024x50x50x32, .f32⟩
  | 106 => ⟨S1024x32x50x50, .f32⟩
  | 107 => ⟨S1024x32x50x50, .f32⟩
  | 108 => ⟨S32x32x1x1, .f32⟩
  | 109 => ⟨S32x32, .f32⟩
  | 110 => ⟨S1024x32x50x50, .f32⟩
  | 111 => ⟨S1024x50x50x32, .f32⟩
  | 112 => ⟨S1024x32x50x50, .f32⟩
  | 113 => ⟨S1024x32x50x50, .f32⟩
  | 114 => ⟨S32x32x1x1, .f32⟩
  | 115 => ⟨S32x32, .f32⟩
  | 116 => ⟨S1024x32x50x50, .f32⟩
  | 117 => ⟨S1024x50x50x32, .f32⟩
  | 118 => ⟨S1024x32x50x50, .f32⟩
  | 119 => ⟨S1024x32x50x50, .f32⟩
  | 120 => ⟨S32x32x1x1, .f32⟩
  | 121 => ⟨S32x32, .f32⟩
  | 122 => ⟨S1024x32x50x50, .f32⟩
  | 123 => ⟨S1024x50x50x32, .f32⟩
  | 124 => ⟨S1024x32x50x50, .f32⟩
  | 125 => ⟨S1024x32x50x50, .f32⟩
  | 126 => ⟨S32x32x1x1, .f32⟩
  | 127 => ⟨S32x32, .f32⟩
  | _ => ⟨S16x64x1, .f32⟩

abbrev hbmTy0_1 (i : Nat) : BufTy := match i % 128 with
  | 0 => ⟨S1024x32x50x50, .f32⟩
  | 1 => ⟨S1024x50x50x32, .f32⟩
  | 2 => ⟨S1024x32x50x50, .f32⟩
  | 3 => ⟨S1024x32x50x50, .f32⟩
  | 4 => ⟨S32x32x1x1, .f32⟩
  | 5 => ⟨S32x32, .f32⟩
  | 6 => ⟨S1024x32x50x50, .f32⟩
  | 7 => ⟨S1024x50x50x32, .f32⟩
  | 8 => ⟨S1024x32x50x50, .f32⟩
  | 9 => ⟨S1024x32x50x50, .f32⟩
  | 10 => ⟨S32x32x1x1, .f32⟩
  | 11 => ⟨S32x32, .f32⟩
  | 12 => ⟨S1024x32x50x50, .f32⟩
  | 13 => ⟨S1024x50x50x32, .f32⟩
  | 14 => ⟨S1024x32x50x50, .f32⟩
  | 15 => ⟨S1024x32x50x50, .f32⟩
  | 16 => ⟨S32x32x1x1, .f32⟩
  | 17 => ⟨S32x32, .f32⟩
  | 18 => ⟨S1024x32x50x50, .f32⟩
  | 19 => ⟨S1024x50x50x32, .f32⟩
  | 20 => ⟨S1024x32x50x50, .f32⟩
  | 21 => ⟨S1024x32x50x50, .f32⟩
  | 22 => ⟨S1x32x1x1, .f32⟩
  | 23 => ⟨S1024x32x50x50, .f32⟩
  | 24 => ⟨S1024x32x50x50, .f32⟩
  | 25 => ⟨S_, .f32⟩
  | 26 => ⟨S1024x32x50x50, .f32⟩
  | 27 => ⟨S1024x32x50x50, .f32⟩
  | 28 => ⟨S_, .f32⟩
  | 29 => ⟨S1024x32, .f32⟩
  | 30 => ⟨S_, .f32⟩
  | 31 => ⟨S1024x32, .f32⟩
  | 32 => ⟨S1024x32, .f32⟩
  | 33 => ⟨S1024x33, .f32⟩
  | 34 => ⟨S1024x128, .f32⟩
  | 35 => ⟨S1x128, .f32⟩
  | 36 => ⟨S1024x128, .f32⟩
  | 37 => ⟨S1024x128, .f32⟩
  | 38 => ⟨S_, .f32⟩
  | 39 => ⟨S1024x128, .f32⟩
  | 40 => ⟨S1024x128, .f32⟩
  | 41 => ⟨S1024x128, .f32⟩
  | 42 => ⟨S1x128, .f32⟩
  | 43 => ⟨S1024x128, .f32⟩
  | 44 => ⟨S1024x128, .f32⟩
  | 45 => ⟨S16x64x128, .f32⟩
  | 46 => ⟨S_, .f32⟩
  | 47 => ⟨S16x128, .f32⟩
  | 48 => ⟨S_, .f32⟩
  | 49 => ⟨S16x128, .f32⟩
  | 50 => ⟨S16x128, .f32⟩
  | 51 => ⟨S16x128, .f32⟩
  | 52 => ⟨S1x128, .f32⟩
  | 53 => ⟨S16x128, .f32⟩
  | 54 => ⟨S16x128, .f32⟩
  | 55 => ⟨S_, .f32⟩
  | 56 => ⟨S16x128, .f32⟩
  | 57 => ⟨S16x128, .f32⟩
  | 58 => ⟨S16x64, .f32⟩
  | 59 => ⟨S1x64, .f32⟩
  | 60 => ⟨S16x64, .f32⟩
  | 61 => ⟨S16x64, .f32⟩
  | 62 => ⟨S16x64, .f32⟩
  | 63 => ⟨S1x64, .f32⟩
  | 64 => ⟨S16x64, .f32⟩
  | 65 => ⟨S16x64, .f32⟩
  | 66 => ⟨S16x64, .f32⟩
  | 67 => ⟨S16x64, .f32⟩
  | 68 => ⟨S_, .f32⟩
  | 69 => ⟨S16x64, .f32⟩
  | 70 => ⟨S16x64, .f32⟩
  | 71 => ⟨S_, .f32⟩
  | 72 => ⟨S16x64, .f32⟩
  | 73 => ⟨S16x64, .f32⟩
  | 74 => ⟨S_, .f32⟩
  | 75 => ⟨S16x64, .f32⟩
  | 76 => ⟨S16x64, .f32⟩
  | 77 => ⟨S_, .f32⟩
  | 78 => ⟨S16x64, .f32⟩
  | 79 => ⟨S16x64, .f32⟩
  | 80 => ⟨S16x64, .f32⟩
  | 81 => ⟨S16x64, .f32⟩
  | 82 => ⟨S16x1x64, .f32⟩
  | 83 => ⟨S16x128x64, .f32⟩
  | 84 => ⟨S16x128x65, .f32⟩
  | 85 => ⟨S16x128x128, .f32⟩
  | 86 => ⟨S1x1x128, .f32⟩
  | 87 => ⟨S16x128x128, .f32⟩
  | 88 => ⟨S16x128x128, .f32⟩
  | 89 => ⟨S_, .f32⟩
  | 90 => ⟨S16x128x128, .f32⟩
  | 91 => ⟨S16x128x128, .f32⟩
  | 92 => ⟨S16x128x128, .f32⟩
  | 93 => ⟨S1x1x128, .f32⟩
  | 94 => ⟨S16x128x128, .f32⟩
  | 95 => ⟨S16x128x128, .f32⟩
  | 96 => ⟨S_, .f32⟩
  | 97 => ⟨S16x128x128, .f32⟩
  | 98 => ⟨S16x128x128, .f32⟩
  | 99 => ⟨S16x128x2500, .f32⟩
  | 100 => ⟨S1x1x2500, .f32⟩
  | 101 => ⟨S16x128x2500, .f32⟩
  | 102 => ⟨S16x128x2500, .f32⟩
  | 103 => ⟨S16x128x2500, .f32⟩
  | 104 => ⟨S1x1x2500, .f32⟩
  | 105 => ⟨S16x128x2500, .f32⟩
  | 106 => ⟨S16x128x2500, .f32⟩
  | 107 => ⟨S_, .f32⟩
  | 108 => ⟨S16x128x2500, .f32⟩
  | 109 => ⟨S16x128x2500, .f32⟩
  | 110 => ⟨S16x128x2500, .f32⟩
  | 111 => ⟨S16x128x2500, .f32⟩
  | 112 => ⟨S16x128x2500, .i1⟩
  | 113 => ⟨S16x128x2500, .f32⟩
  | 114 => ⟨S16x128x2500, .f32⟩
  | 115 => ⟨S16x128x2500, .f32⟩
  | 116 => ⟨S16x128x2500, .f32⟩
  | 117 => ⟨S16x128x2500, .f32⟩
  | 118 => ⟨S16x128x2500, .f32⟩
  | 119 => ⟨S16x128x2500, .f32⟩
  | 120 => ⟨S16x128x2500, .f32⟩
  | 121 => ⟨S_, .f32⟩
  | 122 => ⟨S16x128x2500, .f32⟩
  | 123 => ⟨S16x128x2500, .f32⟩
  | 124 => ⟨S_, .f32⟩
  | 125 => ⟨S16x128x2500, .f32⟩
  | 126 => ⟨S16x128x2500, .f32⟩
  | _ => ⟨S16x64x1, .f32⟩

abbrev hbmTy (i : Nat) : BufTy := match i / 128 with
  | 0 => hbmTy0_0 i
  | 1 => hbmTy0_1 i
  | _ => ⟨S16x64x1, .f32⟩

abbrev bufTy : (tb : Table) → Fin (tcTables nBuf tb) → BufTy
  | .hbm, ⟨i, _⟩ => hbmTy i
  | _, _ => ⟨S16x64x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c : Ref sig .tc := ⟨.hbm, 32, rfl⟩
abbrev main_call0_v0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call1_cst : Ref sig .tc := ⟨.hbm, 91, rfl⟩
abbrev main_call1_v0 : Ref sig .tc := ⟨.hbm, 92, rfl⟩
abbrev main_v63 : Ref sig .tc := ⟨.hbm, 93, rfl⟩
abbrev main_c_0 : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_call3_cst : Ref sig .tc := ⟨.hbm, 153, rfl⟩
abbrev main_call3_v0 : Ref sig .tc := ⟨.hbm, 154, rfl⟩
abbrev main_v121 : Ref sig .tc := ⟨.hbm, 155, rfl⟩
abbrev main_cst : Ref sig .tc := ⟨.hbm, 156, rfl⟩
abbrev main_v122 : Ref sig .tc := ⟨.hbm, 157, rfl⟩
abbrev main_cst_1 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_call4_cst : Ref sig .tc := ⟨.hbm, 166, rfl⟩
abbrev main_call4_v0 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_2 : Ref sig .tc := ⟨.hbm, 174, rfl⟩
abbrev main_v136 : Ref sig .tc := ⟨.hbm, 175, rfl⟩
abbrev main_cst_3 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_call5_cst : Ref sig .tc := ⟨.hbm, 183, rfl⟩
abbrev main_call5_v0 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_4 : Ref sig .tc := ⟨.hbm, 196, rfl⟩
abbrev main_v154 : Ref sig .tc := ⟨.hbm, 197, rfl⟩
abbrev main_v155 : Ref sig .tc := ⟨.hbm, 198, rfl⟩
abbrev main_cst_5 : Ref sig .tc := ⟨.hbm, 199, rfl⟩
abbrev main_v156 : Ref sig .tc := ⟨.hbm, 200, rfl⟩
abbrev main_v157 : Ref sig .tc := ⟨.hbm, 201, rfl⟩
abbrev main_cst_6 : Ref sig .tc := ⟨.hbm, 202, rfl⟩
abbrev main_v158 : Ref sig .tc := ⟨.hbm, 203, rfl⟩
abbrev main_v159 : Ref sig .tc := ⟨.hbm, 204, rfl⟩
abbrev main_cst_7 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_call6_cst : Ref sig .tc := ⟨.hbm, 217, rfl⟩
abbrev main_call6_v0 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_call7_cst : Ref sig .tc := ⟨.hbm, 224, rfl⟩
abbrev main_call7_v0 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_call8_cst : Ref sig .tc := ⟨.hbm, 235, rfl⟩
abbrev main_call8_v0 : Ref sig .tc := ⟨.hbm, 236, rfl⟩
abbrev main_call8_v1 : Ref sig .tc := ⟨.hbm, 237, rfl⟩
abbrev main_call8_v2 : Ref sig .tc := ⟨.hbm, 238, rfl⟩
abbrev main_call8_v3 : Ref sig .tc := ⟨.hbm, 239, rfl⟩
abbrev main_call8_v4 : Ref sig .tc := ⟨.hbm, 240, rfl⟩
abbrev main_call8_v5 : Ref sig .tc := ⟨.hbm, 241, rfl⟩
abbrev main_call8_v6 : Ref sig .tc := ⟨.hbm, 242, rfl⟩
abbrev main_call8_v7 : Ref sig .tc := ⟨.hbm, 243, rfl⟩
abbrev main_call8_v8 : Ref sig .tc := ⟨.hbm, 244, rfl⟩
abbrev main_call8_v9 : Ref sig .tc := ⟨.hbm, 245, rfl⟩
abbrev main_call8_v10 : Ref sig .tc := ⟨.hbm, 246, rfl⟩
abbrev main_call8_v11 : Ref sig .tc := ⟨.hbm, 247, rfl⟩
abbrev main_v185 : Ref sig .tc := ⟨.hbm, 248, rfl⟩
abbrev main_cst_8 : Ref sig .tc := ⟨.hbm, 249, rfl⟩
abbrev main_v186 : Ref sig .tc := ⟨.hbm, 250, rfl⟩
abbrev main_v187 : Ref sig .tc := ⟨.hbm, 251, rfl⟩
abbrev main_cst_9 : Ref sig .tc := ⟨.hbm, 252, rfl⟩
abbrev main_v188 : Ref sig .tc := ⟨.hbm, 253, rfl⟩
abbrev main_v189 : Ref sig .tc := ⟨.hbm, 254, rfl⟩

abbrev nD : Nat := 1
abbrev τ : Topo := Topo.v7x

variable {F : FTy → Type} [FloatOps F]
-- ==== Proof.KernelIdeal.EncBase.lean ====
/-
The encoder's call, shared text: each window's block at a grid point, the two cases of the body (the first point of a row of
four, which stores; the other three, which add), and the staging buffers' names.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The logic's resources at this signature. -/
local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 4 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ 1 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Whether output 12's buffer is FRESH at each position `1 ‥ N` — holds nothing the body stored since the region's entry or the
    last write-back (written back at the point before, or idle there and fresh before it) —, as a bitmask the classifier
    computed, bit `n` for position `n + 1`; position 0 is fresh. `freshTab0_12_step` checks it against the configuration's own
    step point by point and Lib/Pipeline/TableIdle.lean `Cfg.fresh_tab` makes it `Cfg.fresh` (`fresh0_12_eq`). -/
def freshTab0_12 : ℕ → Bool
  | 0 => true
  | n + 1 => (0x8888888888888888 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- At the points of case A the printed configuration (`Cfg.idle`) calls output 12 live: the case stores into it. -/
theorem liveAt0_12_A : ∀ t : Fin cfg0.N, cond0_0 (grid0.coords t) → ¬cond0_1 (grid0.coords t) → cfg0.idle 12 (grid0.coords t) = false := by decide +kernel
/-- At the points of case B the printed configuration (`Cfg.idle`) calls output 12 live: the case stores into it. -/
theorem liveAt0_12_B : ∀ t : Fin cfg0.N, ¬cond0_0 (grid0.coords t) → cond0_1 (grid0.coords t) → cfg0.idle 12 (grid0.coords t) = false := by decide +kernel
/-- At the points of case B, which keeps output 12's prior contents (reads it before covering, or covers it in part), the
    window's buffer is not FRESH: something was stored into it since the region's entry or its last write-back, idle points
    between or not (Lib/Pipeline/TableIdle.lean `Cfg.fresh`, by the table `freshTab0_12`). -/
theorem notFresh0_12_B : ∀ t : Fin cfg0.N, ¬cond0_0 (grid0.coords t) → cond0_1 (grid0.coords t) → cfg0.fresh 12 t.val = false := by
  intro t; rw [fresh0_12_eq t]; revert t; decide +kernel

/-! ## The kernel body on any staging memrefs: a subtype the run finds -/

/-- One staging buffer of output window 12, through which its contents are stated (`View.read_writes_of_cover`: the
    choice does not matter). -/
abbrev VO0_12 : View sig .tc .vmem S1x1x128 .f32 := (Memref.whole cc0_stg12_0 : Memref sig .tc .vmem S1x1x128 .f32).view
/-- Each window's current staging memref at point `t`, spelled as the pipeline passes it (`bodyAt0`), and its wholeness. -/
abbrev ms0_0 (t : Fin cfg0.N) : Memref sig .tc .vmem S1x16x1x2816 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2816 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x9 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x9 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S288x32 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S33x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)

end Cert.KernelIdeal.Enc

end
-- ==== Proof.KernelIdeal.EncRunA.lean ====
/-
The encoder's body at the first point of a row of four: run to its end, it leaves the result's block stored.
-/
module

public import proofs.«01_k».proof.Proof.KernelIdeal.EncBase

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The logic's resources at this signature. -/
local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, … 60: 16 of 64), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : cond0_0 i) (hc1 : ¬cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) :
    { L12 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12)) -∗ K ⟨⟩))
          ⊢ wp frame (wpE (defs₀ (F := F)) Variants.none c none) E (cc0__enc_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__enc_body_eq_skeleton]; unfold cc0__enc_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact H12

end Cert.KernelIdeal.Enc

end
-- ==== Proof.KernelIdeal.EncRunB.lean ====
/-
The encoder's body at the other points: run to its end, it leaves the result's block with the step's sum added.
-/
module

public import proofs.«01_k».proof.Proof.KernelIdeal.EncRunA

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The logic's resources at this signature. -/
local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 48 of 64), WITH the
    proof that on whole staging memrefs — the inputs' at their contents, the outputs it reads before covering (12) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : ¬cond0_0 i) (hc1 : cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) (xo12 : Vec F S1x1x128 .f32) :
    { L12 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12)) -∗ K ⟨⟩))
          ⊢ wp frame (wpE (defs₀ (F := F)) Variants.none c none) E (cc0__enc_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__enc_body_eq_skeleton]; unfold cc0__enc_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact H12

end Cert.KernelIdeal.Enc

end
-- ==== Proof.KernelIdeal.EncCall.lean ====
/-
The encoder's call: what its result's block holds after each point, its proof data over any entry contents, and the
body's obligation at every point.
-/
module

public import proofs.«01_k».proof.Proof.KernelIdeal.EncRunB

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The logic's resources at this signature. -/
local notation "𝕄" => MT nD τ sig Unit (Elt F) ℕ (UR sig nD τ) ℕ

variable (V : (c : Dev nD) → (b : Ref sig .tc) → Buf (Elt F) ((c : Thread nD τ).loc b))

/-- Case A's pieces for output 12 tile its block (1 store of `S1x1x128`, checked by the kernel's evaluation: Lib/Ring.lean `Piece.tiledL`, linear in the pieces, through a loop's `@[irreducible]` trip theorem too), so they cover it. -/
theorem cover0_A_12 (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : cond0_0 i) (hc1 : ¬cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1 S1x1x128.size (by sl_kernel_rfl) y

/-- What case A leaves in output 12's staging buffer: its pieces read back over junk. -/
def out0_A_12 (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : cond0_0 i) (hc1 : ¬cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) : Vec F S1x1x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).1)

/-- Case B's pieces for output 12 tile its block (1 store of `S1x1x128`, checked by the kernel's evaluation: Lib/Ring.lean `Piece.tiledL`, linear in the pieces, through a loop's `@[irreducible]` trip theorem too), so they cover it. -/
theorem cover0_B_12 (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : ¬cond0_0 i) (hc1 : cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) (xo12 : Vec F S1x1x128 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo12).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo12).1 S1x1x128.size (by sl_kernel_rfl) y

/-- What case B leaves in output 12's staging buffer: its pieces read back over junk. -/
def out0_B_12 (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : ¬cond0_0 i) (hc1 : cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) (xo12 : Vec F S1x1x128 .f32) : Vec F S1x1x128 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo12).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x1x128 .f32
  | 0, hn => out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩)
  | n + 1, hn =>
    if h0 : (n + 1) % 4 = 0 then
      if h1 : 1 ≤ (n + 1) % 4 then
        False.elim (by have hN : n + 1 < 64 := lt_of_lt_of_eq hn (show cfg0.N = 64 from N_0); omega)
      else
        out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩)
    else
      if h1 : 1 ≤ (n + 1) % 4 then
        out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (outsAt0 c n (Nat.lt_of_succ_lt hn))
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 4 = 0) (h1 : ¬1 ≤ t.val % 4) :
    outsAt0 V c t.val t.isLt = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : 1 ≤ t.val % 4) :
    outsAt0 V c t.val t.isLt = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => (outsAt0 V c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = iblk V c 8 t := by dsimp only [dat]
theorem after0_9 (c : Dev nD) (t : Fin cfg0.N) : (dat V c).after 9 t = iblk V c 9 t := by dsimp only [dat]
theorem after0_10 (c : Dev nD) (t : Fin cfg0.N) : (dat V c).after 10 t = iblk V c 10 t := by dsimp only [dat]
theorem after0_11 (c : Dev nD) (t : Fin cfg0.N) : (dat V c).after 11 t = iblk V c 11 t := by dsimp only [dat]
theorem after0_12 (c : Dev nD) (t : Fin cfg0.N) : (dat V c).after 12 t = (outsAt0 V c t.val t.isLt) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d
theorem before0_8 (c : Dev nD) (t : Fin cfg0.N) (d) : (dat V c).before 8 t d = iblk V c 8 t :=
  before0_8_of V (dat V c) (A_eq V c 8) (after0_8 V c) t d
theorem before0_9 (c : Dev nD) (t : Fin cfg0.N) (d) : (dat V c).before 9 t d = iblk V c 9 t :=
  before0_9_of V (dat V c) (A_eq V c 9) (after0_9 V c) t d
theorem before0_10 (c : Dev nD) (t : Fin cfg0.N) (d) : (dat V c).before 10 t d = iblk V c 10 t :=
  before0_10_of V (dat V c) (A_eq V c 10) (after0_10 V c) t d
theorem before0_11 (c : Dev nD) (t : Fin cfg0.N) (d) : (dat V c).before 11 t d = iblk V c 11 t :=
  before0_11_of V (dat V c) (A_eq V c 11) (after0_11 V c) t d

/-- Output 12's contents CARRY through the points that leave it idle: at such a point, its buffer not fresh, the proof data's
    `after` is the point before's (the case there stores nothing into the window and its term says so; a case that stores
    into it is not idle there by `liveAt0_12_κ`) — the hypothesis of Lib/Pipeline/TableIdle.lean `Dat.before_out_traj`. -/
theorem hcarry0_12 (c : Dev nD) : ∀ (t : Fin cfg0.N) (_ : t.val ≠ 0), cfg0.idle 12 (grid0.coords t) = true → cfg0.fresh 12 t.val = false →
    (dat V c).after 12 t = (dat V c).after 12 ⟨t.val - 1, by omega⟩ := by
  intro t _ hi _
  have hN : t.val < 64 := lt_of_lt_of_eq t.isLt (show cfg0.N = 64 from N_0)
  rw [after0_12, after0_12]
  by_cases h0 : t.val % 4 = 0
  · by_cases h1 : 1 ≤ t.val % 4
    · exfalso; omega
    · rw [liveAt0_12_A t ((hcond0_0 t).mpr h0) (fun h => h1 ((hcond0_1 t).mp h))] at hi
      exact absurd hi Bool.false_ne_true
  · by_cases h1 : 1 ≤ t.val % 4
    · rw [liveAt0_12_B t (fun h => h0 ((hcond0_0 t).mp h)) ((hcond0_1 t).mpr h1)] at hi
      exact absurd hi Bool.false_ne_true
    · exfalso; omega
/-- At a point of case B output 12's current staging buffer holds what the point before left: the buffer is not fresh
    there (`notFresh0_12_B`: stored into since the region's entry or the last write-back, carried through the points that
    leave it idle by `hcarry0_12`; Lib/Pipeline/TableIdle.lean `Dat.before_out_traj`). -/
theorem before0_12_B (c : Dev nD) (t : Fin cfg0.N) (h0 : ¬t.val % 4 = 0) (h1 : 1 ≤ t.val % 4) (d) :
    (dat V c).before 12 t d = (outsAt0 V c (t.val - 1) (Nat.lt_of_le_of_lt (Nat.sub_le _ _) t.isLt)) := by
  rw [Dat.before_out_traj _ 12 rfl (fun _ _ => rfl) (hcarry0_12 V c) t.val t rfl d,
    if_neg (by rw [notFresh0_12_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d))
    ∗ (∃ d, owns (c : Thread nD τ) (ms0_11 t) fullShare ((dat V c).before 11 t d))
    ∗ (∃ d, owns (c : Thread nD τ) (ms0_12 t) fullShare ((dat V c).before 12 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8, before0_9, before0_10, before0_11]
  rw [show (dat V c).Φ t.succ = (dat V c).Φ t.castSucc from rfl,
    show (dat V c).owesAt () t.succ = (dat V c).owesAt () t.castSucc from rfl]
  have hN : t.val < 64 := lt_of_lt_of_eq t.isLt (show cfg0.N = 64 from N_0)
  by_cases h0 : t.val % 4 = 0
  · by_cases h1 : 1 ≤ t.val % 4
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8 t], after0_8]
      rw [show (dat V c).leavesExact 9 t = owns (c : Thread nD τ) (ms0_9 t) fullShare ((dat V c).after 9 t) from by
      unfold Dat.leavesExact; rw [liveAt0_9 t], after0_9]
      rw [show (dat V c).leavesExact 10 t = owns (c : Thread nD τ) (ms0_10 t) fullShare ((dat V c).after 10 t) from by
      unfold Dat.leavesExact; rw [liveAt0_10 t], after0_10]
      rw [show (dat V c).leavesExact 11 t = owns (c : Thread nD τ) (ms0_11 t) fullShare ((dat V c).after 11 t) from by
      unfold Dat.leavesExact; rw [liveAt0_11 t], after0_11]
      rw [show (dat V c).leavesExact 12 t = owns (c : Thread nD τ) (ms0_12 t) fullShare ((dat V c).after 12 t) from by
      unfold Dat.leavesExact; rw [liveAt0_12_A t ((hcond0_0 t).mpr h0) (fun h => h1 ((hcond0_1 t).mp h))], after0_12]
      rw [outsAt0_A V c t h0 h1]
      unfold out0_A_12
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iintro ⟨H0, H1, H2, H3, H4, H5, H6, H7, H8, H9, H10, H11, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _)
  · by_cases h1 : 1 ≤ t.val % 4
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8 t], after0_8]
      rw [show (dat V c).leavesExact 9 t = owns (c : Thread nD τ) (ms0_9 t) fullShare ((dat V c).after 9 t) from by
      unfold Dat.leavesExact; rw [liveAt0_9 t], after0_9]
      rw [show (dat V c).leavesExact 10 t = owns (c : Thread nD τ) (ms0_10 t) fullShare ((dat V c).after 10 t) from by
      unfold Dat.leavesExact; rw [liveAt0_10 t], after0_10]
      rw [show (dat V c).leavesExact 11 t = owns (c : Thread nD τ) (ms0_11 t) fullShare ((dat V c).after 11 t) from by
      unfold Dat.leavesExact; rw [liveAt0_11 t], after0_11]
      rw [show (dat V c).leavesExact 12 t = owns (c : Thread nD τ) (ms0_12 t) fullShare ((dat V c).after 12 t) from by
      unfold Dat.leavesExact; rw [liveAt0_12_B t (fun h => h0 ((hcond0_0 t).mp h)) ((hcond0_1 t).mpr h1)], after0_12]
      rw [outsAt0_B V c t h0 h1]
      simp only [before0_12_B V c t h0 h1]
      unfold out0_B_12
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H0, H1, H2, H3, H4, H5, H6, H7, H8, H9, H10, H11, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Enc

end
-- ==== Proof.KernelIdeal.DecRun.lean ====
/-
The decoder call's body run once: on whole staging memrefs it leaves the inputs as they were and each
output at the value a step computes.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import Idealize.ShloMosaic.Lib.Pipeline.Frame
public import Idealize.ShloMosaic.Lib.Pipeline.ValueKit.Acc

@[expose] public section

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a step computes -/

/-- The mean row: the squashed hidden row against the mean's weights, plus its bias. -/
def muRow (x0 : Vec F S1x1x128 .f32) (x3 : Vec F S128x128 .bf16) (x4 : Vec F S1x128 .f32) (x5 : Vec F S128x64 .bf16) (x6 : Vec F S1x64 .f32) : FVec F S1x64 .f32 :=
  k1_pay6 x0 x3 x4 x5 x6

/-- The spread row. -/
def sgRow (x0 : Vec F S1x1x128 .f32) (x3 : Vec F S128x128 .bf16) (x4 : Vec F S1x128 .f32) (x7 : Vec F S128x64 .bf16) (x8 : Vec F S1x64 .f32) : FVec F S1x64 .f32 :=
  k1_pay7 x0 x3 x4 x7 x8

/-- The spread row times the given draw. -/
def zRow (x0 : Vec F S1x1x128 .f32) (x1 : Vec F S1x1x64 .f32) (x3 : Vec F S128x128 .bf16) (x4 : Vec F S1x128 .f32) (x7 : Vec F S128x64 .bf16) (x8 : Vec F S1x64 .f32) : FVec F S1x64 .f32 :=
  k1_pay8 x0 x3 x4 x7 x8 x1

/-- The decoder's second hidden layer, one row per target point. -/
def hid (x0 : Vec F S1x1x128 .f32) (x1 : Vec F S1x1x64 .f32) (x2 : Vec F S1x128x1 .f32) (x3 : Vec F S128x128 .bf16) (x4 : Vec F S1x128 .f32) (x5 : Vec F S128x64 .bf16) (x6 : Vec F S1x64 .f32) (x7 : Vec F S128x64 .bf16) (x8 : Vec F S1x64 .f32) (x9 : Vec F S1x128 .bf16) (x10 : Vec F S64x128 .bf16) (x11 : Vec F S1x128 .f32) (x12 : Vec F S128x128 .bf16) (x13 : Vec F S1x128 .f32) : FVec F S128x128 .bf16 :=
  k1_pay9 (muRow x0 x3 x4 x5 x6) (zRow x0 x1 x3 x4 x7 x8) x2 x9 x10 x11 x12 x13

/-- The first output's block: the hidden layer against the mean's weights, plus its bias. -/
def yOut (x0 : Vec F S1x1x128 .f32) (x1 : Vec F S1x1x64 .f32) (x2 : Vec F S1x128x1 .f32) (x3 : Vec F S128x128 .bf16) (x4 : Vec F S1x128 .f32) (x5 : Vec F S128x64 .bf16) (x6 : Vec F S1x64 .f32) (x7 : Vec F S128x64 .bf16) (x8 : Vec F S1x64 .f32) (x9 : Vec F S1x128 .bf16) (x10 : Vec F S64x128 .bf16) (x11 : Vec F S1x128 .f32) (x12 : Vec F S128x128 .bf16) (x13 : Vec F S1x128 .f32) (x14 : Vec F S128x2500 .bf16) (x15 : Vec F S1x2500 .f32) : FVec F S1x128x2500 .f32 :=
  k1_pay1 (k1_pay10 (muRow x0 x3 x4 x5 x6) (zRow x0 x1 x3 x4 x7 x8) x2 x9 x10 x11 x12 x13 x14 x15)

/-- The second output's block: the softplus of the hidden layer against its own weights, plus a bias. -/
def vOut (x0 : Vec F S1x1x128 .f32) (x1 : Vec F S1x1x64 .f32) (x2 : Vec F S1x128x1 .f32) (x3 : Vec F S128x128 .bf16) (x4 : Vec F S1x128 .f32) (x5 : Vec F S128x64 .bf16) (x6 : Vec F S1x64 .f32) (x7 : Vec F S128x64 .bf16) (x8 : Vec F S1x64 .f32) (x9 : Vec F S1x128 .bf16) (x10 : Vec F S64x128 .bf16) (x11 : Vec F S1x128 .f32) (x12 : Vec F S128x128 .bf16) (x13 : Vec F S1x128 .f32) (x16 : Vec F S128x2500 .bf16) (x17 : Vec F S1x2500 .f32) : FVec F S1x128x2500 .f32 :=
  k1_pay2 (hid x0 x1 x2 x3 x4 x5 x6 x7 x8 x9 x10 x11 x12 x13) x16 x17

/-- The third output's block: the mean row. -/
def muOut (x0 : Vec F S1x1x128 .f32) (x3 : Vec F S128x128 .bf16) (x4 : Vec F S1x128 .f32) (x5 : Vec F S128x64 .bf16) (x6 : Vec F S1x64 .f32) : FVec F S1x1x64 .f32 :=
  k1_pay3 (muRow x0 x3 x4 x5 x6)

/-- The fourth output's block: the spread row. -/
def sgOut (x0 : Vec F S1x1x128 .f32) (x3 : Vec F S128x128 .bf16) (x4 : Vec F S1x128 .f32) (x7 : Vec F S128x64 .bf16) (x8 : Vec F S1x64 .f32) : FVec F S1x1x64 .f32 :=
  k1_pay4 (sgRow x0 x3 x4 x7 x8)

/-! ## The run -/

set_option maxHeartbeats 4000000 in
/-- The body on whole staging memrefs, the inputs at their contents and the outputs at anything, runs to the
    continuation that holds the inputs as they were and each output at its value. -/
theorem body_run (c : Dev nD) (i : grid1.Coords) (arg1 : Memref sig .tc .vmem S1x1x128 .f32) (harg1 : arg1.IsWhole) (arg2 : Memref sig .tc .vmem S1x1x64 .f32) (harg2 : arg2.IsWhole) (arg3 : Memref sig .tc .vmem S1x128x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x64 .bf16) (harg6 : arg6.IsWhole) (arg7 : Memref sig .tc .vmem S1x64 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1x128 .bf16) (harg10 : arg10.IsWhole) (arg11 : Memref sig .tc .vmem S64x128 .bf16) (harg11 : arg11.IsWhole) (arg12 : Memref sig .tc .vmem S1x128 .f32) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x2500 .bf16) (harg15 : arg15.IsWhole) (arg16 : Memref sig .tc .vmem S1x2500 .f32) (harg16 : arg16.IsWhole) (arg17 : Memref sig .tc .vmem S128x2500 .bf16) (harg17 : arg17.IsWhole) (arg18 : Memref sig .tc .vmem S1x2500 .f32) (harg18 : arg18.IsWhole) (arg19 : Memref sig .tc .vmem S1x128x2500 .f32) (harg19 : arg19.IsWhole) (arg20 : Memref sig .tc .vmem S1x128x2500 .f32) (harg20 : arg20.IsWhole) (arg21 : Memref sig .tc .vmem S1x1x64 .f32) (harg21 : arg21.IsWhole) (arg22 : Memref sig .tc .vmem S1x1x64 .f32) (harg22 : arg22.IsWhole)
    (x0 : Vec F S1x1x128 .f32) (x1 : Vec F S1x1x64 .f32) (x2 : Vec F S1x128x1 .f32) (x3 : Vec F S128x128 .bf16) (x4 : Vec F S1x128 .f32) (x5 : Vec F S128x64 .bf16) (x6 : Vec F S1x64 .f32) (x7 : Vec F S128x64 .bf16) (x8 : Vec F S1x64 .f32) (x9 : Vec F S1x128 .bf16) (x10 : Vec F S64x128 .bf16) (x11 : Vec F S1x128 .f32) (x12 : Vec F S128x128 .bf16) (x13 : Vec F S1x128 .f32) (x14 : Vec F S128x2500 .bf16) (x15 : Vec F S1x2500 .f32) (x16 : Vec F S128x2500 .bf16) (x17 : Vec F S1x2500 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (yOut x0 x1 x2 x3 x4 x5 x6 x7 x8 x9 x10 x11 x12 x13 x14 x15) ∗ owns (c : Thread nD τ) arg20 fullShare (vOut x0 x1 x2 x3 x4 x5 x6 x7 x8 x9 x10 x11 x12 x13 x16 x17) ∗ owns (c : Thread nD τ) arg21 fullShare (muOut x0 x3 x4 x5 x6) ∗ owns (c : Thread nD τ) arg22 fullShare (sgOut x0 x3 x4 x7 x8)) -∗ K ⟨⟩))
          ⊢ wp frame (wpE (defs₀ (F := F)) Variants.none c none) E (cc1__dec_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1__dec_body_eq_skeleton]; unfold cc1__dec_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr
    swap; · iexact H18
    ipureintro
    refine (View.read_writes_full _ _ _ _ _).trans ?_
    sl_unfold_words
    simp (disch := decide) only [View.ld_unit_lit', View.readAt_eq_ld, Memref.IsWhole.read_unread]
    rfl
  isplitl [H19]
  · iexists _; isplitr
    swap; · iexact H19
    ipureintro
    refine (View.read_writes_full _ _ _ _ _).trans ?_
    sl_unfold_words
    simp (disch := decide) only [View.ld_unit_lit', View.readAt_eq_ld, Memref.IsWhole.read_unread]
    rfl
  isplitl [H20]
  · iexists _; isplitr
    swap; · iexact H20
    ipureintro
    refine (View.read_writes_full _ _ _ _ _).trans ?_
    sl_unfold_words
    simp (disch := decide) only [View.ld_unit_lit', View.readAt_eq_ld, Memref.IsWhole.read_unread]
    rfl
  · iexists _; isplitr
    swap; · iexact H21
    ipureintro
    refine (View.read_writes_full _ _ _ _ _).trans ?_
    sl_unfold_words
    simp (disch := decide) only [View.ld_unit_lit', View.readAt_eq_ld, Memref.IsWhole.read_unread]
    rfl

end Cert.KernelIdeal.Dec

end
-- ==== Proof.KernelIdeal.DecCall.lean ====
/-
The decoder call's proof data and its body's obligation at every grid point, entered from any contents.
-/
module

public import proofs.«01_k».proof.Proof.KernelIdeal.DecRun

@[expose] public section

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk V c 14 t) (t : Fin cfg1.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk V c 15 t) (t : Fin cfg1.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk V c 16 t) (t : Fin cfg1.N) (d) : dat.before 16 t d = iblk V c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): `Dat.before_in_eq_fetched` (unfetched, the index has not moved), the window uncut and never idle. -/
theorem before1_17_of {c : Dev nD} (dat : Dat τ (Elt F) Unit ℕ (UR sig nD τ) ℕ cfg1 c) (hA : dat.A 17 = V c (Pipeline.arrRef spec1 17))
    (hafter : ∀ t, dat.after 17 t = iblk V c 17 t) (t : Fin cfg1.N) (d) : dat.before 17 t d = iblk V c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-! ## The staging memrefs -/

abbrev ms1_0 (t : Fin cfg1.N) : Memref sig .tc .vmem S1x1x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x64 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x128 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x128 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x2500 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x2500 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S128x2500 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x2500 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x128x2500 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1x128x2500 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S1x1x64 .f32 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S1x1x64 .f32 := win1_21.stage (cfg1.slots t 21)
abbrev hs1_21 (t : Fin cfg1.N) : (ms1_21 t).IsWhole := hstage1_21 ((cfg1.slots t 21).cast nbuf1_21)

/-! ## The pipeline's proof data -/

/-- The proof data of the decoder call on core `c`: the arrays as the call finds them (`V`); after the body at point
    `t` each input's buffer at its block and each output's at what the step computes of the blocks; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => yOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t)
    | ⟨19, _⟩ => vOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 16 t) (iblk V c 17 t)
    | ⟨20, _⟩ => muOut (iblk V c 0 t) (iblk V c 3 t) (iblk V c 4 t) (iblk V c 5 t) (iblk V c 6 t)
    | ⟨21, _⟩ => sgOut (iblk V c 0 t) (iblk V c 3 t) (iblk V c 4 t) (iblk V c 7 t) (iblk V c 8 t)
    | ⟨_ + 22, h⟩ => absurd h (Nat.not_lt.2 (Nat.le_add_left _ _))
  Φ _ := Pipeline.ΦA spec1 c
  q _ := fullShare
  owed _ := 0

/-- The proof data's arrays are the region-entry contents `V`: the proof data's definition projected (`dsimp`). -/
theorem A_eq (c : Dev nD) (w : Fin cfg1.W) : (dat V c).A w = V c (Pipeline.arrRef spec1 w) := by
  dsimp only [dat]

/-- What the body leaves, window by window (the proof data's `match` reduced by `dsimp`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = iblk V c 8 t := by dsimp only [dat]
theorem after1_9 (c : Dev nD) (t : Fin cfg1.N) : (dat V c).after 9 t = iblk V c 9 t := by dsimp only [dat]
theorem after1_10 (c : Dev nD) (t : Fin cfg1.N) : (dat V c).after 10 t = iblk V c 10 t := by dsimp only [dat]
theorem after1_11 (c : Dev nD) (t : Fin cfg1.N) : (dat V c).after 11 t = iblk V c 11 t := by dsimp only [dat]
theorem after1_12 (c : Dev nD) (t : Fin cfg1.N) : (dat V c).after 12 t = iblk V c 12 t := by dsimp only [dat]
theorem after1_13 (c : Dev nD) (t : Fin cfg1.N) : (dat V c).after 13 t = iblk V c 13 t := by dsimp only [dat]
theorem after1_14 (c : Dev nD) (t : Fin cfg1.N) : (dat V c).after 14 t = iblk V c 14 t := by dsimp only [dat]
theorem after1_15 (c : Dev nD) (t : Fin cfg1.N) : (dat V c).after 15 t = iblk V c 15 t := by dsimp only [dat]
theorem after1_16 (c : Dev nD) (t : Fin cfg1.N) : (dat V c).after 16 t = iblk V c 16 t := by dsimp only [dat]
theorem after1_17 (c : Dev nD) (t : Fin cfg1.N) : (dat V c).after 17 t = iblk V c 17 t := by dsimp only [dat]
theorem after1_18 (c : Dev nD) (t : Fin cfg1.N) : (dat V c).after 18 t = yOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) := by dsimp only [dat]
theorem after1_19 (c : Dev nD) (t : Fin cfg1.N) : (dat V c).after 19 t = vOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 16 t) (iblk V c 17 t) := by dsimp only [dat]
theorem after1_20 (c : Dev nD) (t : Fin cfg1.N) : (dat V c).after 20 t = muOut (iblk V c 0 t) (iblk V c 3 t) (iblk V c 4 t) (iblk V c 5 t) (iblk V c 6 t) := by dsimp only [dat]
theorem after1_21 (c : Dev nD) (t : Fin cfg1.N) : (dat V c).after 21 t = sgOut (iblk V c 0 t) (iblk V c 3 t) (iblk V c 4 t) (iblk V c 7 t) (iblk V c 8 t) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d
theorem before1_8 (c : Dev nD) (t : Fin cfg1.N) (d) : (dat V c).before 8 t d = iblk V c 8 t :=
  before1_8_of V (dat V c) (A_eq V c 8) (after1_8 V c) t d
theorem before1_9 (c : Dev nD) (t : Fin cfg1.N) (d) : (dat V c).before 9 t d = iblk V c 9 t :=
  before1_9_of V (dat V c) (A_eq V c 9) (after1_9 V c) t d
theorem before1_10 (c : Dev nD) (t : Fin cfg1.N) (d) : (dat V c).before 10 t d = iblk V c 10 t :=
  before1_10_of V (dat V c) (A_eq V c 10) (after1_10 V c) t d
theorem before1_11 (c : Dev nD) (t : Fin cfg1.N) (d) : (dat V c).before 11 t d = iblk V c 11 t :=
  before1_11_of V (dat V c) (A_eq V c 11) (after1_11 V c) t d
theorem before1_12 (c : Dev nD) (t : Fin cfg1.N) (d) : (dat V c).before 12 t d = iblk V c 12 t :=
  before1_12_of V (dat V c) (A_eq V c 12) (after1_12 V c) t d
theorem before1_13 (c : Dev nD) (t : Fin cfg1.N) (d) : (dat V c).before 13 t d = iblk V c 13 t :=
  before1_13_of V (dat V c) (A_eq V c 13) (after1_13 V c) t d
theorem before1_14 (c : Dev nD) (t : Fin cfg1.N) (d) : (dat V c).before 14 t d = iblk V c 14 t :=
  before1_14_of V (dat V c) (A_eq V c 14) (after1_14 V c) t d
theorem before1_15 (c : Dev nD) (t : Fin cfg1.N) (d) : (dat V c).before 15 t d = iblk V c 15 t :=
  before1_15_of V (dat V c) (A_eq V c 15) (after1_15 V c) t d
theorem before1_16 (c : Dev nD) (t : Fin cfg1.N) (d) : (dat V c).before 16 t d = iblk V c 16 t :=
  before1_16_of V (dat V c) (A_eq V c 16) (after1_16 V c) t d
theorem before1_17 (c : Dev nD) (t : Fin cfg1.N) (d) : (dat V c).before 17 t d = iblk V c 17 t :=
  before1_17_of V (dat V c) (A_eq V c 17) (after1_17 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d))
    ∗ (∃ d, owns (c : Thread nD τ) (ms1_11 t) fullShare ((dat V c).before 11 t d))
    ∗ (∃ d, owns (c : Thread nD τ) (ms1_12 t) fullShare ((dat V c).before 12 t d))
    ∗ (∃ d, owns (c : Thread nD τ) (ms1_13 t) fullShare ((dat V c).before 13 t d))
    ∗ (∃ d, owns (c : Thread nD τ) (ms1_14 t) fullShare ((dat V c).before 14 t d))
    ∗ (∃ d, owns (c : Thread nD τ) (ms1_15 t) fullShare ((dat V c).before 15 t d))
    ∗ (∃ d, owns (c : Thread nD τ) (ms1_16 t) fullShare ((dat V c).before 16 t d))
    ∗ (∃ d, owns (c : Thread nD τ) (ms1_17 t) fullShare ((dat V c).before 17 t d))
    ∗ (∃ d, owns (c : Thread nD τ) (ms1_18 t) fullShare ((dat V c).before 18 t d))
    ∗ (∃ d, owns (c : Thread nD τ) (ms1_19 t) fullShare ((dat V c).before 19 t d))
    ∗ (∃ d, owns (c : Thread nD τ) (ms1_20 t) fullShare ((dat V c).before 20 t d))
    ∗ (∃ d, owns (c : Thread nD τ) (ms1_21 t) fullShare ((dat V c).before 21 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t)
    ∗ owns (c : Thread nD τ) (ms1_10 t) fullShare ((dat V c).after 10 t)
    ∗ owns (c : Thread nD τ) (ms1_11 t) fullShare ((dat V c).after 11 t)
    ∗ owns (c : Thread nD τ) (ms1_12 t) fullShare ((dat V c).after 12 t)
    ∗ owns (c : Thread nD τ) (ms1_13 t) fullShare ((dat V c).after 13 t)
    ∗ owns (c : Thread nD τ) (ms1_14 t) fullShare ((dat V c).after 14 t)
    ∗ owns (c : Thread nD τ) (ms1_15 t) fullShare ((dat V c).after 15 t)
    ∗ owns (c : Thread nD τ) (ms1_16 t) fullShare ((dat V c).after 16 t)
    ∗ owns (c : Thread nD τ) (ms1_17 t) fullShare ((dat V c).after 17 t)
    ∗ owns (c : Thread nD τ) (ms1_18 t) fullShare ((dat V c).after 18 t)
    ∗ owns (c : Thread nD τ) (ms1_19 t) fullShare ((dat V c).after 19 t)
    ∗ owns (c : Thread nD τ) (ms1_20 t) fullShare ((dat V c).after 20 t)
    ∗ owns (c : Thread nD τ) (ms1_21 t) fullShare ((dat V c).after 21 t))

set_option maxHeartbeats 2000000 in
/-- The body at any point: the inputs' memrefs hold their blocks (`before1_W`); so the
    run applies; the invariant passes through unread; what the core owes passes through too. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10, before1_11, before1_12, before1_13, before1_14, before1_15, before1_16, before1_17]
  rw [show (dat V c).Φ t.succ = (dat V c).Φ t.castSucc from rfl,
    show (dat V c).owesAt () t.succ = (dat V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (body_run c (grid1.coords t) _ _ _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

set_option maxHeartbeats 4000000 in
/-- The library's body obligation, at every point: the body's triple restated (`triple_restated`). -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Dec

end
-- ==== Proof.KernelIdeal.Launch.lean ====
/-
The kernel's run from its entry to its return: the host's first stretches, the encoder call, the stretch
between, the decoder call and the host's last stretch.  `run_main` reads every buffer of the device off
the last valuation; `frame` keeps the arguments out of it.
-/
module

public import proofs.«01_k».proof.Proof.KernelIdeal.EncCall
public import proofs.«01_k».proof.Proof.KernelIdeal.DecCall
public import proofs.«01_k».proof.Proof.Gen.KernelIdeal.Regions
public import Idealize.ShloMosaic.Lib.Pipeline.RegionArrays

@[expose] public section

set_option maxRecDepth 4000

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]
variable (m : (ℓ : Loc nD τ sig) → Buf (Elt F) ℓ)

local notation "𝕄" => MT nD τ sig Unit (Elt F) ℕ (UR sig nD τ) ℕ

/-! ## What each call leaves -/

/-- What the encoder call is entered with. -/
abbrev Ve0 (c : Dev nD) (b : Ref sig .tc) : Buf (Elt F) ((c : Thread nD τ).loc b) := V9 m c (Proc.devRef .tc b)

/-- The contents after the encoder call: its output array as its steps leave it, the rest as at entry. -/
def encV (c : Dev nD) : (b : DevRef τ sig) → Buf (Elt F) ((c : Thread nD τ).1, b) :=
  Function.update (V9 m c) (Proc.devRef .tc main_v27) ((Enc.dat (Ve0 m) c).arrAt 12 cfg0.N)

/-- The encoder call's output, as the frame's unknowns (nothing is asked of the decoder call's yet). -/
def outsA : Outs (F := F) := fun _ r c => encV m c (Proc.devRef .tc r)

/-- The core owes nothing throughout. -/
abbrev D0 : Dev nD → CellTallies nD τ sig Unit := fun _ => 0

/-- What the decoder call is entered with. -/
abbrev Ve1 (c : Dev nD) (b : Ref sig .tc) : Buf (Elt F) ((c : Thread nD τ).loc b) := V11 m (outsA m) c (Proc.devRef .tc b)

/-- The decoder call's proof data, entered from what the encoder call and the stretch after it leave. -/
abbrev decDat (c : Dev nD) : Dat τ (Elt F) Unit ℕ (UR sig nD τ) ℕ cfg1 c := Dec.dat (Ve1 m) c

section Lookup
variable {β : DevRef τ sig → Type} (f : (b : DevRef τ sig) → β b)
  (v0 : β (Proc.devRef .tc main_v46_0)) (v1 : β (Proc.devRef .tc main_v46_1))
  (v2 : β (Proc.devRef .tc main_v46_2)) (v3 : β (Proc.devRef .tc main_v46_3))

/-- A family with the four outputs written in turn. -/
def put4 : (b : DevRef τ sig) → β b :=
  Function.update (Function.update (Function.update (Function.update f (Proc.devRef .tc main_v46_0) v0)
    (Proc.devRef .tc main_v46_1) v1) (Proc.devRef .tc main_v46_2) v2) (Proc.devRef .tc main_v46_3) v3

theorem put4_0 : put4 f v0 v1 v2 v3 (Proc.devRef .tc main_v46_0) = v0 := by
  unfold put4
  rw [Function.update_of_ne (StableHlo.devRef_ne_of_ne (by decide)), Function.update_of_ne (StableHlo.devRef_ne_of_ne (by decide)),
    Function.update_of_ne (StableHlo.devRef_ne_of_ne (by decide)), Function.update_self]
theorem put4_1 : put4 f v0 v1 v2 v3 (Proc.devRef .tc main_v46_1) = v1 := by
  unfold put4
  rw [Function.update_of_ne (StableHlo.devRef_ne_of_ne (by decide)), Function.update_of_ne (StableHlo.devRef_ne_of_ne (by decide)),
    Function.update_self]
theorem put4_2 : put4 f v0 v1 v2 v3 (Proc.devRef .tc main_v46_2) = v2 := by
  unfold put4
  rw [Function.update_of_ne (StableHlo.devRef_ne_of_ne (by decide)), Function.update_self]
theorem put4_3 : put4 f v0 v1 v2 v3 (Proc.devRef .tc main_v46_3) = v3 := by
  unfold put4
  rw [Function.update_self]
theorem put4_of_ne (b : DevRef τ sig) (h0 : b ≠ Proc.devRef .tc main_v46_0) (h1 : b ≠ Proc.devRef .tc main_v46_1)
    (h2 : b ≠ Proc.devRef .tc main_v46_2) (h3 : b ≠ Proc.devRef .tc main_v46_3) : put4 f v0 v1 v2 v3 b = f b := by
  unfold put4
  rw [Function.update_of_ne h3, Function.update_of_ne h2, Function.update_of_ne h1, Function.update_of_ne h0]
end Lookup

/-- The contents of the decoder call's four output arrays after it. -/
def decV (c : Dev nD) : (b : DevRef τ sig) → Buf (Elt F) ((c : Thread nD τ).1, b) :=
  put4 (β := fun b => Buf (Elt F) ((c : Thread nD τ).1, b)) (V11 m (outsA m) c)
    ((decDat m c).arrAt 18 cfg1.N) ((decDat m c).arrAt 19 cfg1.N) ((decDat m c).arrAt 20 cfg1.N) ((decDat m c).arrAt 21 cfg1.N)

/-- Both calls' outputs. -/
def outs : Outs (F := F) := fun k r c => if k = 10 then encV m c (Proc.devRef .tc r) else decV m c (Proc.devRef .tc r)

theorem outs_enc (c : Dev nD) : outs m 10 main_v27 c = (Enc.dat (Ve0 m) c).arrAt 12 cfg0.N := by
  show encV m c (Proc.devRef .tc main_v27) = _
  unfold encV
  rw [Function.update_self]

/-- At the decoder call the family is the one after it. -/
theorem outs_at12 (r : Ref sig .tc) (c : Dev nD) : outs m 12 r c = decV m c (Proc.devRef .tc r) :=
  if_neg (by decide)

theorem outs_dec0 (c : Dev nD) : outs m 12 main_v46_0 c = (decDat m c).arrAt 18 cfg1.N :=
  (outs_at12 m main_v46_0 c).trans (put4_0 (β := fun b => Buf (Elt F) ((c : Thread nD τ).1, b)) (V11 m (outsA m) c) _ _ _ _)
theorem outs_dec1 (c : Dev nD) : outs m 12 main_v46_1 c = (decDat m c).arrAt 19 cfg1.N :=
  (outs_at12 m main_v46_1 c).trans (put4_1 (β := fun b => Buf (Elt F) ((c : Thread nD τ).1, b)) (V11 m (outsA m) c) _ _ _ _)
theorem outs_dec2 (c : Dev nD) : outs m 12 main_v46_2 c = (decDat m c).arrAt 20 cfg1.N :=
  (outs_at12 m main_v46_2 c).trans (put4_2 (β := fun b => Buf (Elt F) ((c : Thread nD τ).1, b)) (V11 m (outsA m) c) _ _ _ _)
theorem outs_dec3 (c : Dev nD) : outs m 12 main_v46_3 c = (decDat m c).arrAt 21 cfg1.N :=
  (outs_at12 m main_v46_3 c).trans (put4_3 (β := fun b => Buf (Elt F) ((c : Thread nD τ).1, b)) (V11 m (outsA m) c) _ _ _ _)

/-- The decoder call is entered with the same contents under either family of unknowns. -/
theorem V11_outs : V11 m (outs m) = V11 m (outsA m) := rfl

/-! ## The two calls' records -/

/-- The proof data of the two calls. -/
def dats : (p : Fin 2) → (c : Dev nD) → Dat τ (Elt F) Unit ℕ (UR sig nD τ) ℕ (cfgs p) c
  | ⟨0, _⟩ => fun c => Enc.dat (Ve0 m) c
  | ⟨1, _⟩ => fun c => decDat m c

/-- One level, at every cell of a TensorCore. -/
abbrev L : GSem nD τ sig → Finset Unit := fun g => if g.1.2 = .tc then {()} else ∅
abbrev lv : GSem nD τ sig → Unit → ℕ := fun _ _ => 0

theorem hL (g : GSem nD τ sig) (h : g.1.2 ≠ .tc) : L g = ∅ := if_neg h

theorem cut (p : Fin 2) : Pipeline.LevelCut (pcfgs (F := F)) adm () L lv p D0 (fun _ => 0) where
  hι _ _ _ := by show () ∈ ite _ _ _; rw [if_pos rfl]; exact Finset.mem_singleton_self _
  hιb _ _ _ := le_refl _
  hD _ _ _ h := absurd h (lt_irrefl _)

/-- What a core carries between the items: its random-number register and its owing nothing. -/
def rest (c : Dev nD) : sProp 𝕄 := iprop((∃ r, prngReg c r) ∗ ∃ W, owes (c : Thread nD τ) (0 : CellTallies nD τ sig Unit) W)

/-- Each window's array of the encoder call is in the call's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are unscoped. -/
theorem arr0_S : Pipeline.arrRefs (τ := τ) spec0 ⊆ Pipeline.ucRefs τ sig :=
  Pipeline.arrRefs_sub_ucRefs spec0 (by decide)

/-- Off the encoder call's arrays its run changes nothing. -/
theorem rest0_eq (c : Dev nD) : ∀ b ∈ (Pipeline.ucRefs τ sig) \ Pipeline.arrRefs (τ := τ) spec0,
    V10 m (outs m) c b = V9 m c b := fun b hb => by
  have hn : b ∉ Pipeline.arrRefs (τ := τ) spec0 := (Finset.mem_sdiff.mp hb).2
  have h : b ≠ Proc.devRef .tc main_v27 := by rintro rfl; exact hn (arr0_mem 12)
  simp only [V10, Function.update_of_ne h]

/-- An array the encoder call reads is left as it was. -/
theorem in0 (c : Dev nD) (w : Fin cfg0.W) (hw : (cfg0.win w).isOut = false)
    (hr : Pipeline.arrRef spec0 w ∉ ([main_v27] : List (Ref sig .tc))) :
    (Enc.dat (Ve0 m) c).arrAt w cfg0.N = V10 m (outs m) c (Proc.devRef .tc (Pipeline.arrRef spec0 w)) :=
  ((Enc.dat (Ve0 m) c).arrAt_in w hw _).trans ((Enc.A_eq (Ve0 m) c w).trans (V10_of m (outs m) c _ hr).symm)

/-- After the encoder call each of its arrays is what the next valuation says. -/
theorem exit0 (c : Dev nD) : ∀ w : Fin cfg0.W,
    (Enc.dat (Ve0 m) c).arrAt w cfg0.N = V10 m (outs m) c (Proc.devRef .tc (Pipeline.arrRef spec0 w))
  | 0 => in0 m c 0 rfl (by decide) | 1 => in0 m c 1 rfl (by decide) | 2 => in0 m c 2 rfl (by decide)
  | 3 => in0 m c 3 rfl (by decide) | 4 => in0 m c 4 rfl (by decide) | 5 => in0 m c 5 rfl (by decide)
  | 6 => in0 m c 6 rfl (by decide) | 7 => in0 m c 7 rfl (by decide) | 8 => in0 m c 8 rfl (by decide)
  | 9 => in0 m c 9 rfl (by decide) | 10 => in0 m c 10 rfl (by decide) | 11 => in0 m c 11 rfl (by decide)
  | 12 => by
    show _ = Function.update (V9 m c) (Proc.devRef .tc main_v27) (outs m 10 main_v27 c) (Proc.devRef .tc main_v27)
    rw [Function.update_self, outs_enc]

set_option backward.isDefEq.respectTransparency.types false in
/-- The encoder call from its run: its arrays held at `V9` in and `V10` out, the other buffers riding. -/
def R0 : RegionSeg (pcfgs (F := F)) adm (dats m) () defs₀ Variants.none L lv 0 :=
  Pipeline.RegionSeg.ofHeld (pcfgs (F := F)) adm (dats m) () defs₀ Variants.none L lv 0 D0
    (fun c => iprop(∃ r, prngReg c r)) (fun c => iprop(∃ r, prngReg c r))
    launch0.toP rfl
    (fun c => (Enc.body_obligation (Ve0 m) c).loose) (fun _ _ => rfl) (fun _ => rfl)
    (fun c => (dats m 0 c).share_full fun _ => rfl) (fun _ => .rfl) (fun _ => .rfl) (fun _ => 0) (cut 0)
    (fun c => StableHlo.held (c : Thread nD τ) ((Pipeline.ucRefs τ sig) \ Pipeline.arrRefs (τ := τ) spec0) (V9 m c))
    (V9 m) (V10 m (outs m)) (fun _ _ => rfl) (exit0 m)

theorem hpre0 (c : Dev nD) :
    iprop(StableHlo.held (c : Thread nD τ) (Pipeline.ucRefs τ sig) (V9 m c) ∗ rest c) ⊢ (R0 m).pre c := by
  show _ ⊢ iprop(StableHlo.held (c : Thread nD τ) (Pipeline.arrRefs (τ := τ) spec0) (V9 m c) ∗ (∃ r, prngReg c r)
    ∗ StableHlo.held (c : Thread nD τ) ((Pipeline.ucRefs τ sig) \ Pipeline.arrRefs (τ := τ) spec0) (V9 m c)
    ∗ ∃ W, owes (c : Thread nD τ) (D0 c) W)
  rw [StableHlo.held_sub_split (c : Thread nD τ) arr0_S (V9 m c)]
  unfold rest
  iintro ⟨⟨Ha, Hr⟩, Hp, HO⟩
  isplitl [Ha]; · iexact Ha
  isplitl [Hp]; · iexact Hp
  isplitl [Hr]; · iexact Hr
  iexact HO

theorem hpost0 (c : Dev nD) :
    (R0 m).post c ⊢ iprop(StableHlo.held (c : Thread nD τ) (Pipeline.ucRefs τ sig) (V10 m (outs m) c) ∗ rest c) := by
  show iprop(StableHlo.held (c : Thread nD τ) (Pipeline.arrRefs (τ := τ) spec0) (V10 m (outs m) c) ∗ (∃ r, prngReg c r)
    ∗ StableHlo.held (c : Thread nD τ) ((Pipeline.ucRefs τ sig) \ Pipeline.arrRefs (τ := τ) spec0) (V9 m c)
    ∗ ∃ W, owes (c : Thread nD τ) (D0 c) W) ⊢ _
  rw [StableHlo.held_sub_split (c : Thread nD τ) arr0_S (V10 m (outs m) c),
    StableHlo.held_congr (c : Thread nD τ) (S := (Pipeline.ucRefs τ sig) \ Pipeline.arrRefs (τ := τ) spec0) (rest0_eq m c)]
  unfold rest
  iintro ⟨Ha, Hp, Hr, HO⟩
  isplitl [Ha Hr]; · isplitl [Ha] <;> iassumption
  isplitl [Hp]; · iexact Hp
  iexact HO

/-- Each window's array of the decoder call is in the call's array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are unscoped. -/
theorem arr1_S : Pipeline.arrRefs (τ := τ) spec1 ⊆ Pipeline.ucRefs τ sig :=
  Pipeline.arrRefs_sub_ucRefs spec1 (by decide)

/-- The contents after the decoder call are those before it with the four outputs put in. -/
theorem V12_put4 (c : Dev nD) : V12 m (outs m) c = put4 (β := fun b => Buf (Elt F) ((c : Thread nD τ).1, b)) (V11 m (outs m) c)
    (outs m 12 main_v46_0 c) (outs m 12 main_v46_1 c) (outs m 12 main_v46_2 c) (outs m 12 main_v46_3 c) := rfl
theorem V12_y (c : Dev nD) : V12 m (outs m) c (Proc.devRef .tc main_v46_0) = (decDat m c).arrAt 18 cfg1.N :=
  (congrFun (V12_put4 m c) _).trans ((put4_0 (β := fun b => Buf (Elt F) ((c : Thread nD τ).1, b)) _ _ _ _ _).trans (outs_dec0 m c))
theorem V12_var (c : Dev nD) : V12 m (outs m) c (Proc.devRef .tc main_v46_1) = (decDat m c).arrAt 19 cfg1.N :=
  (congrFun (V12_put4 m c) _).trans ((put4_1 (β := fun b => Buf (Elt F) ((c : Thread nD τ).1, b)) _ _ _ _ _).trans (outs_dec1 m c))
theorem V12_mu (c : Dev nD) : V12 m (outs m) c (Proc.devRef .tc main_v46_2) = (decDat m c).arrAt 20 cfg1.N :=
  (congrFun (V12_put4 m c) _).trans ((put4_2 (β := fun b => Buf (Elt F) ((c : Thread nD τ).1, b)) _ _ _ _ _).trans (outs_dec2 m c))
theorem V12_sigma (c : Dev nD) : V12 m (outs m) c (Proc.devRef .tc main_v46_3) = (decDat m c).arrAt 21 cfg1.N :=
  (congrFun (V12_put4 m c) _).trans ((put4_3 (β := fun b => Buf (Elt F) ((c : Thread nD τ).1, b)) _ _ _ _ _).trans (outs_dec3 m c))

/-- Off the decoder call's arrays its run changes nothing. -/
theorem rest1_eq (c : Dev nD) : ∀ b ∈ (Pipeline.ucRefs τ sig) \ Pipeline.arrRefs (τ := τ) spec1,
    V12 m (outs m) c b = V11 m (outs m) c b := fun b hb => by
  have hn : b ∉ Pipeline.arrRefs (τ := τ) spec1 := (Finset.mem_sdiff.mp hb).2
  have h0 : b ≠ Proc.devRef .tc main_v46_0 := by rintro rfl; exact hn (arr1_mem 18)
  have h1 : b ≠ Proc.devRef .tc main_v46_1 := by rintro rfl; exact hn (arr1_mem 19)
  have h2 : b ≠ Proc.devRef .tc main_v46_2 := by rintro rfl; exact hn (arr1_mem 20)
  have h3 : b ≠ Proc.devRef .tc main_v46_3 := by rintro rfl; exact hn (arr1_mem 21)
  exact (congrFun (V12_put4 m c) b).trans (put4_of_ne (β := fun b => Buf (Elt F) ((c : Thread nD τ).1, b)) _ _ _ _ _ b h0 h1 h2 h3)

/-- An array the decoder call reads is left as it was. -/
theorem in1 (c : Dev nD) (w : Fin cfg1.W) (hw : (cfg1.win w).isOut = false)
    (hr : Pipeline.arrRef spec1 w ∉ ([main_v46_0, main_v46_1, main_v46_2, main_v46_3] : List (Ref sig .tc))) :
    (decDat m c).arrAt w cfg1.N = V12 m (outs m) c (Proc.devRef .tc (Pipeline.arrRef spec1 w)) :=
  ((decDat m c).arrAt_in w hw _).trans ((Dec.A_eq (Ve1 m) c w).trans (V12_of m (outs m) c _ hr).symm)

/-- A window of the decoder call is an input whose array is none of the outputs, or one of the four outputs. -/
theorem win1_cases : ∀ w : Fin cfg1.W, ((cfg1.win w).isOut = false
      ∧ Pipeline.arrRef spec1 w ∉ ([main_v46_0, main_v46_1, main_v46_2, main_v46_3] : List (Ref sig .tc)))
    ∨ w = 18 ∨ w = 19 ∨ w = 20 ∨ w = 21 := by decide

/-- After the decoder call each of its arrays is what the next valuation says. -/
theorem exit1 (c : Dev nD) (w : Fin cfg1.W) :
    (decDat m c).arrAt w cfg1.N = V12 m (outs m) c (Proc.devRef .tc (Pipeline.arrRef spec1 w)) := by
  rcases win1_cases w with ⟨hi, hr⟩ | rfl | rfl | rfl | rfl
  · exact in1 m c w hi hr
  · exact (V12_y m c).symm
  · exact (V12_var m c).symm
  · exact (V12_mu m c).symm
  · exact (V12_sigma m c).symm

set_option backward.isDefEq.respectTransparency.types false in
/-- The decoder call from its run: its arrays held at `V11` in and `V12` out, the other buffers riding. -/
def R1 : RegionSeg (pcfgs (F := F)) adm (dats m) () defs₀ Variants.none L lv 1 :=
  Pipeline.RegionSeg.ofHeld (pcfgs (F := F)) adm (dats m) () defs₀ Variants.none L lv 1 D0
    (fun c => iprop(∃ r, prngReg c r)) (fun c => iprop(∃ r, prngReg c r))
    launch1.toP rfl
    (fun c => (Dec.body_obligation (Ve1 m) c).loose) (fun _ _ => rfl) (fun _ => rfl)
    (fun c => (dats m 1 c).share_full fun _ => rfl) (fun _ => .rfl) (fun _ => .rfl) (fun _ => 0) (cut 1)
    (fun c => StableHlo.held (c : Thread nD τ) ((Pipeline.ucRefs τ sig) \ Pipeline.arrRefs (τ := τ) spec1) (V11 m (outs m) c))
    (V11 m (outs m)) (V12 m (outs m)) (fun _ _ => rfl) (exit1 m)

theorem hpre1 (c : Dev nD) :
    iprop(StableHlo.held (c : Thread nD τ) (Pipeline.ucRefs τ sig) (V11 m (outs m) c) ∗ rest c) ⊢ (R1 m).pre c := by
  show _ ⊢ iprop(StableHlo.held (c : Thread nD τ) (Pipeline.arrRefs (τ := τ) spec1) (V11 m (outs m) c) ∗ (∃ r, prngReg c r)
    ∗ StableHlo.held (c : Thread nD τ) ((Pipeline.ucRefs τ sig) \ Pipeline.arrRefs (τ := τ) spec1) (V11 m (outs m) c)
    ∗ ∃ W, owes (c : Thread nD τ) (D0 c) W)
  rw [StableHlo.held_sub_split (c : Thread nD τ) arr1_S (V11 m (outs m) c)]
  unfold rest
  iintro ⟨⟨Ha, Hr⟩, Hp, HO⟩
  isplitl [Ha]; · iexact Ha
  isplitl [Hp]; · iexact Hp
  isplitl [Hr]; · iexact Hr
  iexact HO

theorem hpost1 (c : Dev nD) :
    (R1 m).post c ⊢ iprop(StableHlo.held (c : Thread nD τ) (Pipeline.ucRefs τ sig) (V12 m (outs m) c) ∗ rest c) := by
  show iprop(StableHlo.held (c : Thread nD τ) (Pipeline.arrRefs (τ := τ) spec1) (V12 m (outs m) c) ∗ (∃ r, prngReg c r)
    ∗ StableHlo.held (c : Thread nD τ) ((Pipeline.ucRefs τ sig) \ Pipeline.arrRefs (τ := τ) spec1) (V11 m (outs m) c)
    ∗ ∃ W, owes (c : Thread nD τ) (D0 c) W) ⊢ _
  rw [StableHlo.held_sub_split (c : Thread nD τ) arr1_S (V12 m (outs m) c),
    StableHlo.held_congr (c : Thread nD τ) (S := (Pipeline.ucRefs τ sig) \ Pipeline.arrRefs (τ := τ) spec1) (rest1_eq m c)]
  unfold rest
  iintro ⟨Ha, Hp, Hr, HO⟩
  isplitl [Ha Hr]; · isplitl [Ha] <;> iassumption
  isplitl [Hp]; · iexact Hp
  iexact HO

/-! ## The whole run -/

/-- The run's post: every unscoped buffer is at the last valuation and every semaphore at zero. -/
def Post (r : PUnit × MemSt nD τ sig (Elt F)) : Prop :=
  (∀ c : Dev nD, ∀ b ∈ Pipeline.ucRefs τ sig, r.2.mem ((c : Thread nD τ).1, b) = V13 m (outs m) c b) ∧ r.2.sem = fun _ => 0

/-- At the end a core owes nothing. -/
theorem rest_end (c : Dev nD) : (rest c : sProp 𝕄) ⊢ iprop(∃ W, owes (c : Thread nD τ) (0 : CellTallies nD τ sig Unit) W) := by
  unfold rest
  iintro ⟨-, H⟩
  iexact H

/-- What the launch gives a core makes what it carries. -/
theorem rest_init1 (ρ : Dev nD → PrngReg) (c : Dev nD) :
    (iprop(unscopedSems0 c ∗ owes (c : Thread nD τ) (D0 c) ∅ ∗ Pipeline.launchCred D0 c ∗ prngReg c (ρ c) ∗ emp) : sProp 𝕄)
      ⊢ rest c := by
  unfold rest
  iintro ⟨-, HO, -, Hp, -⟩
  isplitl [Hp]
  · iexists (ρ c); iexact Hp
  · iexists ∅; iexact HO

/-- The launch makes what every core carries: its register and its owing nothing. -/
theorem rest_init (ρ : Dev nD → PrngReg) :
    iprop((bigSep Finset.univ fun c : Dev nD => iprop(unscopedSems0 c ∗ owes (c : Thread nD τ) (D0 c) ∅
      ∗ Pipeline.launchCred D0 c ∗ prngReg c (ρ c) ∗ emp)) ∗ levAts L lv)
      ⊢ (|={Set.univ}=> bigSep Finset.univ rest : sProp 𝕄) := by
  have h : (bigSep Finset.univ fun c : Dev nD => iprop(unscopedSems0 c ∗ owes (c : Thread nD τ) (D0 c) ∅
      ∗ Pipeline.launchCred D0 c ∗ prngReg c (ρ c) ∗ emp)) ⊢ (bigSep Finset.univ rest : sProp 𝕄) :=
    bigSep_mono fun c _ => rest_init1 ρ c
  iintro ⟨H, -⟩
  ihave H' := h $$ H
  imodintro
  iexact H'

set_option backward.isDefEq.respectTransparency.types false in
/-- From any contents and registers the program runs, and ends with every unscoped buffer at the last valuation. -/
theorem run_main (ρ : Dev nD → PrngReg) :
    θ_run defs (onTc (τ := τ) (main (F := F))) ⟨m, fun _ => 0, ρ⟩ (Post m) := by
  refine Pipeline.θ_run_regions_kit_dev_sems (pcfgs (F := F)) adm (dats m) () cellOf_inj emb₁ defs₀ Variants.none L lv m ρ main
    (segs m (outs m) Variants.none L lv (fun _ => rest) () (dats m) (R0 m) (R1 m))
    (fun c Q => by
      rewrite [main_chain c, Seg.run_eq_chain,
        show (segs m (outs m) Variants.none L lv (fun _ => rest) () (dats m) (R0 m) (R1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) D0 hL (fun _ => iprop(emp))
    (initOf (Pipeline.cells cfgs cellOf_inj) (Pipeline.launchToks cfgs cellOf_inj))
    (by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V13 m (outs m) c))
    (hch := fun c => ⟨.rfl, .rfl, .rfl, .rfl, .rfl, .rfl, .rfl, .rfl, .rfl, hpre0 m c, hpost0 m c, hpre1 m c, hpost1 m c,
      sep_mono .rfl (rest_end c)⟩)
    (hinit := ?_) (QY := fun c s => ∀ b ∈ Pipeline.ucRefs τ sig, s.mem ((c : Thread nD τ).1, b) = V13 m (outs m) c b)
    (hfin := fun c s' => ?_) (hQ := fun _ h hz => ⟨h, funext fun g => hz g (.inr (regions_no_unscoped g.2))⟩)
  · -- the launch hands over the unscoped buffers at the first valuation, and the rest of it makes `rest`
    have hsplit : (bigSep Finset.univ fun c : Dev nD => iprop(unscopedBufs c (fun b => m ((c.tc : Thread nD τ).loc b)) ∗ unscopedSems0 c
          ∗ owes (c.tc : Thread nD τ) (D0 c) ∅ ∗ Pipeline.launchCred D0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (D0 c) ∅ ∗ Pipeline.launchCred D0 c ∗ prngReg c (ρ c) ∗ emp))
            : sProp 𝕄) := by
      rw [← bigSep_sep']
      exact bigSep_mono fun c _ => by
        rw [← Pipeline.unscopedBufs_held (Ix := Unit) (Name := ℕ) (U := UR sig nD τ) (Lvl := ℕ) c (V0 m c)]
        exact BI.Entails.refl _
    iintro ⟨H, Hla⟩
    ihave H' := hsplit $$ H
    icases H' with ⟨Hh, Hr⟩
    imod (rest_init ρ) $$ [Hr Hla] with HE
    · isplitl [Hr]; · iexact Hr
      iexact Hla
    imodintro
    rw [bigSep_sep']
    isplitl [Hh]; · iexact Hh
    iexact HE
  · -- at the end every held buffer is read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact h
    · iexact HSI

/-- A reference that is not scoped is read off the last valuation. -/
theorem Post.at {m : (ℓ : Loc nD τ sig) → Buf (Elt F) ℓ} {r : PUnit × MemSt nD τ sig (Elt F)} (h : Post m r) (c : Dev nD)
    (b : Ref sig .tc) (hb : ¬ (Proc.devRef .tc b : DevRef τ sig).isScoped) :
    r.2.mem ((c.tc : Thread nD τ).loc b) = V13 m (outs m) c (Proc.devRef .tc b) :=
  h.1 c (Proc.devRef .tc b) (Finset.mem_filter.mpr ⟨StableHlo.devRef_mem_tcRefs b, hb⟩)

/-- An argument is still what it was in a state the run's post holds of. -/
theorem Post.arg {m : (ℓ : Loc nD τ sig) → Buf (Elt F) ℓ} {r : PUnit × MemSt nD τ sig (Elt F)} (h : Post m r) (c : Dev nD)
    (b : Ref sig .tc) (hb : ¬ (Proc.devRef .tc b : DevRef τ sig).isScoped)
    (hV : V13 m (outs m) c (Proc.devRef .tc b) = m ((c.tc : Thread nD τ).loc b)) :
    r.2.mem ((c.tc : Thread nD τ).loc b) = m ((c.tc : Thread nD τ).loc b) :=
  (h.at c b hb).trans hV

end Cert.KernelIdeal.Launch

end
-- ==== Proof.KernelIdeal.Frame.lean ====
/-
The frame of the idealised kernel: from the run of its two calls, the arguments and the semaphores.
-/
module

public import proofs.«01_k».proof.Proof.KernelIdeal.Launch

@[expose] public section

set_option maxRecDepth 4000

noncomputable section

namespace Cert.KernelIdeal.Launch

open Cert.KernelIdeal Cert.KernelIdeal.Gen
open Idealize.ShloMosaic Idealize.ShloMosaic.TcCoe Idealize.SL.Sem

variable {F : FTy → Type} [FloatOps F] [Named F]

/-- Every argument of a run of the idealised kernel keeps its contents. -/
theorem args (m : (ℓ : Loc nD τ sig) → Buf (Elt F) ℓ) {r : PUnit × MemSt nD τ sig (Elt F)} (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25) :=
  ⟨h.arg c main_arg0 (by decide) (V13_main_arg0 m (outs m) c),
    h.arg c main_arg1 (by decide) (V13_main_arg1 m (outs m) c),
    h.arg c main_arg2 (by decide) (V13_main_arg2 m (outs m) c),
    h.arg c main_arg3 (by decide) (V13_main_arg3 m (outs m) c),
    h.arg c main_arg4 (by decide) (V13_main_arg4 m (outs m) c),
    h.arg c main_arg5 (by decide) (V13_main_arg5 m (outs m) c),
    h.arg c main_arg6 (by decide) (V13_main_arg6 m (outs m) c),
    h.arg c main_arg7 (by decide) (V13_main_arg7 m (outs m) c),
    h.arg c main_arg8 (by decide) (V13_main_arg8 m (outs m) c),
    h.arg c main_arg9 (by decide) (V13_main_arg9 m (outs m) c),
    h.arg c main_arg10 (by decide) (V13_main_arg10 m (outs m) c),
    h.arg c main_arg11 (by decide) (V13_main_arg11 m (outs m) c),
    h.arg c main_arg12 (by decide) (V13_main_arg12 m (outs m) c),
    h.arg c main_arg13 (by decide) (V13_main_arg13 m (outs m) c),
    h.arg c main_arg14 (by decide) (V13_main_arg14 m (outs m) c),
    h.arg c main_arg15 (by decide) (V13_main_arg15 m (outs m) c),
    h.arg c main_arg16 (by decide) (V13_main_arg16 m (outs m) c),
    h.arg c main_arg17 (by decide) (V13_main_arg17 m (outs m) c),
    h.arg c main_arg18 (by decide) (V13_main_arg18 m (outs m) c),
    h.arg c main_arg19 (by decide) (V13_main_arg19 m (outs m) c),
    h.arg c main_arg20 (by decide) (V13_main_arg20 m (outs m) c),
    h.arg c main_arg21 (by decide) (V13_main_arg21 m (outs m) c),
    h.arg c main_arg22 (by decide) (V13_main_arg22 m (outs m) c),
    h.arg c main_arg23 (by decide) (V13_main_arg23 m (outs m) c),
    h.arg c main_arg24 (by decide) (V13_main_arg24 m (outs m) c),
    h.arg c main_arg25 (by decide) (V13_main_arg25 m (outs m) c)⟩

/-- The program runs, keeps its arguments, and ends with every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  (θ_run defs _ _).mono (fun _ h => ⟨fun c => args m h c, h.2⟩) (run_main m ρ)

end Cert.KernelIdeal.Launch

end
-- ==== Proof.KernelIdeal.EncRow.lean ====
/-
What one grid point of the encoder's call computes: the features of each of its sixteen points (`rowFeat`), the network
over them (`netRows`), the sum of the sixteen representations (`stepVal`), and that the body's two cases leave that block,
resp. that block added to the one found.
-/
module

public import proofs.«01_k».proof.Proof.KernelIdeal.EncCall
public import Idealize.ShloMosaic.Lib.Pipeline.ValueKit

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The logic's resources at this signature. -/
local notation "𝕄" => MT nD τ sig Unit (Elt F) ℕ (UR sig nD τ) ℕ

/-- The row of a block that holds point `i`'s padded picture. -/
def yRow (x0 : Vec F S1x16x1x2816 .f32) (i : Fin 16) : Vec F S1x1x1x2816 .f32 :=
  View.ld x0 (Rect.unit (s := S1x16x1x2816) ![0, i, 0, 0] ![1, 1, 1, 2816] (by revert i; decide))

/-- The cell of a block that holds point `i`'s position. -/
def xCell (x1 : Vec F S1x1x1x16 .f32) (i : Fin 16) : Vec F S1x1x1x1 .f32 :=
  View.ld x1 (Rect.unit (s := S1x1x1x16) ![0, 0, 0, i] ![1, 1, 1, 1] (by revert i; decide))

/-- The features of one point: both convolutions of its picture, pooled, and its position. -/
def rowFeat (m : FVec F S1x2704 .f32) (X : FVec F S32x2704 .f32) (y : Vec F S1x1x1x2816 .f32) (x : Vec F S1x1x1x1 .f32)
    (w1 : Vec F S32x9 .bf16) (b1 : Vec F S32x1 .f32) (w2 : Vec F S288x32 .bf16) (b2 : Vec F S32x1 .f32) : FVec F S1x33 .f32 :=
  k0_pay45 m (k0_pay43 x) (k0_pay44 m X y x w1 b1) w2 b2

/-- The two layers over the sixteen points' features, before the last bias. -/
def netRows (r : Fin 16 → FVec F S1x33 .f32) (we1 : Vec F S33x128 .bf16) (be1 : Vec F S1x128 .f32)
    (we2 : Vec F S128x128 .bf16) : FVec F S16x128 .f32 :=
  matmul dot_S16x128_S128x128_S16x128_1_0_0_1_n_n none
    (truncf .bf16 (maximumf (addf
      (matmul dot_S16x33_S33x128_S16x128_1_0_0_1_n_n none
        (truncf .bf16 (concatenate S16x33 0 [⟨S1x33, r 0⟩, ⟨S1x33, r 1⟩, ⟨S1x33, r 2⟩, ⟨S1x33, r 3⟩, ⟨S1x33, r 4⟩, ⟨S1x33, r 5⟩, ⟨S1x33, r 6⟩, ⟨S1x33, r 7⟩, ⟨S1x33, r 8⟩, ⟨S1x33, r 9⟩, ⟨S1x33, r 10⟩, ⟨S1x33, r 11⟩, ⟨S1x33, r 12⟩, ⟨S1x33, r 13⟩, ⟨S1x33, r 14⟩, ⟨S1x33, r 15⟩] concatenates_S1x33_S1x33_S1x33_S1x33_S1x33_S1x33_S1x33_S1x33_S1x33_S1x33_S1x33_S1x33_S1x33_S1x33_S1x33_S1x33_S16x33_d0) bitsLt_bf16_f32)
        (shapeCast S33x128 we1 shapeCasts_S33x128_S33x128) (constant S16x128 .f32 0x00000000#32))
      (broadcastTo S16x128 (shapeCast S1x128 be1 shapeCasts_S1x128_S1x128) broadcasts_S1x128_S16x128))
      (broadcast S16x128 (Scalar.ofBits .f32 0x00000000#32))) bitsLt_bf16_f32)
    (shapeCast S128x128 we2 shapeCasts_S128x128_S128x128) (constant S16x128 .f32 0x00000000#32)

/-- The features of point `i` of a step. -/
def feat (x0 : Vec F S1x16x1x2816 .f32) (x1 : Vec F S1x1x1x16 .f32) (x2 : Vec F S1x2816 .f32) (x3 : Vec F S32x9 .bf16)
    (x4 : Vec F S32x9 .bf16) (x5 : Vec F S32x1 .f32) (x6 : Vec F S288x32 .bf16) (x7 : Vec F S32x1 .f32) (i : Fin 16) :
    FVec F S1x33 .f32 :=
  rowFeat (k0_pay5 x2) (k0_pay6 x2 x4) (yRow x0 i) (xCell x1 i) x3 x5 x6 x7

/-- The first case leaves the sum of the step's sixteen representations. -/
theorem out0_A_12_eq (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : cond0_0 i) (hc1 : ¬cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) :
    out0_A_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 =
      k0_pay2 (netRows (feat x0 x1 x2 x3 x4 x5 x6 x7) x8 x9 x10) (k0_pay99 x11) := by
  frame_out
  rfl

/-- The other case adds it to the block found. -/
theorem out0_B_12_eq (c : Dev nD) (i : grid0.Coords) (arg2 : Memref sig .tc .vmem S1x16x1x2816 .f32) (harg2 : arg2.IsWhole) (arg3 : Memref sig .tc .vmem S1x1x1x16 .f32) (harg3 : arg3.IsWhole) (arg4 : Memref sig .tc .vmem S1x2816 .f32) (harg4 : arg4.IsWhole) (arg5 : Memref sig .tc .vmem S32x9 .bf16) (harg5 : arg5.IsWhole) (arg6 : Memref sig .tc .vmem S32x9 .bf16) (harg6 : arg6.IsWhole) (arg7 : Memref sig .tc .vmem S32x1 .f32) (harg7 : arg7.IsWhole) (arg8 : Memref sig .tc .vmem S288x32 .bf16) (harg8 : arg8.IsWhole) (arg9 : Memref sig .tc .vmem S32x1 .f32) (harg9 : arg9.IsWhole) (arg10 : Memref sig .tc .vmem S33x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S1x1x128 .f32) (harg14 : arg14.IsWhole) (hc0 : ¬cond0_0 i) (hc1 : cond0_1 i)
    (x0 : Vec F S1x16x1x2816 .f32) (x1 : Vec F S1x1x1x16 .f32) (x2 : Vec F S1x2816 .f32) (x3 : Vec F S32x9 .bf16) (x4 : Vec F S32x9 .bf16) (x5 : Vec F S32x1 .f32) (x6 : Vec F S288x32 .bf16) (x7 : Vec F S32x1 .f32) (x8 : Vec F S33x128 .bf16) (x9 : Vec F S1x128 .f32) (x10 : Vec F S128x128 .bf16) (x11 : Vec F S1x128 .f32) (xo12 : Vec F S1x1x128 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xo12 =
      k0_pay3 (netRows (feat x0 x1 x2 x3 x4 x5 x6 x7) x8 x9 x10) (k0_pay99 x11) xo12 := by
  frame_out
  rfl

end Cert.KernelIdeal.Enc
end
-- ==== Proof.Spec.lean ====
/-
The problem's mathematics over the extended reals, entry by entry: the pictures and points, the two convolutions over
zero-padded pictures, the mean of the pictures, the two-layer network of a point, the mean over the points, the latent's
mean and deviation, and the decoder. Nothing here names a program.
-/
module

public import Idealize.ShloMosaic.Lib.Pointwise

@[expose] public section

noncomputable section

namespace Cert.Spec

open Idealize.ShloMosaic

/-- The extended reals a shape's index set holds. -/
abbrev Arr (s : Shape) := s.Idx → EReal

/-- The 26 arrays of the problem. -/
structure Args where
  /-- the context points' positions -/
  x : Arr ⟨3, ![16, 64, 1]⟩
  /-- the context points' pictures -/
  y : Arr ⟨3, ![16, 64, 2500]⟩
  /-- the target points' positions -/
  xt : Arr ⟨3, ![16, 128, 1]⟩
  /-- the noise -/
  eps : Arr ⟨2, ![16, 64]⟩
  w1 : Arr ⟨4, ![32, 2, 3, 3]⟩
  b1 : Arr ⟨1, ![32]⟩
  w2 : Arr ⟨4, ![32, 32, 3, 3]⟩
  b2 : Arr ⟨1, ![32]⟩
  we1 : Arr ⟨2, ![33, 128]⟩
  be1 : Arr ⟨1, ![128]⟩
  we2 : Arr ⟨2, ![128, 128]⟩
  be2 : Arr ⟨1, ![128]⟩
  wh : Arr ⟨2, ![128, 128]⟩
  bh : Arr ⟨1, ![128]⟩
  wmu : Arr ⟨2, ![128, 64]⟩
  bmu : Arr ⟨1, ![64]⟩
  wsig : Arr ⟨2, ![128, 64]⟩
  bsig : Arr ⟨1, ![64]⟩
  wd1 : Arr ⟨2, ![65, 128]⟩
  bd1 : Arr ⟨1, ![128]⟩
  wd2 : Arr ⟨2, ![128, 128]⟩
  bd2 : Arr ⟨1, ![128]⟩
  wdmu : Arr ⟨2, ![128, 2500]⟩
  bdmu : Arr ⟨1, ![2500]⟩
  wdsig : Arr ⟨2, ![128, 2500]⟩
  bdsig : Arr ⟨1, ![2500]⟩

/-- A picture: 50 rows of 50. -/
abbrev Pic := Fin 50 → Fin 50 → EReal

/-- A picture with a border of zeros, read at row `i` and column `j` of the 52 by 52. -/
def pad50 (T : Pic) (i j : ℕ) : EReal :=
  if h : (1 ≤ i ∧ i - 1 < 50) ∧ (1 ≤ j ∧ j - 1 < 50) then T ⟨i - 1, h.1.2⟩ ⟨j - 1, h.2.2⟩ else 0

/-- The taps of a 3 by 3 window, row by row: the rows below the first. -/
def tapR : Fin 9 → Fin 3 := ![0, 0, 0, 1, 1, 1, 2, 2, 2]
/-- The taps of a 3 by 3 window, row by row: the columns beside the first. -/
def tapC : Fin 9 → Fin 3 := ![0, 1, 2, 0, 1, 2, 0, 1, 2]

/-- One output picture of a 3 by 3 convolution with zero borders, with its bias, cut off below zero. -/
def conv {C : ℕ} (T : Fin C → Pic) (w : Fin C → Fin 3 → Fin 3 → EReal) (b : EReal) : Pic := fun r c =>
  max ((∑ k : Fin 9, ∑ ch, pad50 (T ch) (tapR k + r) (tapC k + c) * w ch (tapR k) (tapC k)) + b) 0

variable (a : Args)

/-- The position of point `n` of set `s`. -/
def pos (s : Fin 16) (n : Fin 64) : EReal := a.x (ix3 s n 0)
/-- Its picture. -/
def pic (s : Fin 16) (n : Fin 64) : Pic := fun r c => a.y (ix3 s n ⟨r * 50 + c, by omega⟩)
/-- The two pictures the first convolution takes: the point's own and the one that holds its position everywhere. -/
def chan (s : Fin 16) (n : Fin 64) : Fin 2 → Pic := ![pic a s n, fun _ _ => pos a s n]
/-- The first convolution's picture `o`. -/
def conv1 (s : Fin 16) (n : Fin 64) (o : Fin 32) : Pic :=
  conv (chan a s n) (fun ch i j => a.w1 (ix4 o ch i j)) (a.b1 (ix1 o))
/-- The second convolution's picture `o`. -/
def conv2 (s : Fin 16) (n : Fin 64) (o : Fin 32) : Pic :=
  conv (conv1 a s n) (fun ch i j => a.w2 (ix4 o ch i j)) (a.b2 (ix1 o))
/-- The mean of the second convolution's picture `o`. -/
def pooled (s : Fin 16) (n : Fin 64) (o : Fin 32) : EReal := (∑ r, ∑ c, conv2 a s n o r c) * ((1 / 2500 : ℝ) : EReal)
/-- A point's features: the 32 means and the position. -/
def feat (s : Fin 16) (n : Fin 64) (k : Fin 33) : EReal :=
  if h : k.val < 32 then pooled a s n ⟨k, h⟩ else pos a s n
/-- A dense layer's entry: a row times a column. -/
def dense {K : ℕ} (v : Fin K → EReal) (w : Fin K → EReal) (b : EReal) : EReal := (∑ k, v k * w k) + b
/-- A point's hidden layer. -/
def hid (s : Fin 16) (n : Fin 64) (o : Fin 128) : EReal :=
  max (dense (feat a s n) (fun k => a.we1 (ix2 k o)) (a.be1 (ix1 o))) 0
/-- A point's representation. -/
def rep (s : Fin 16) (n : Fin 64) (o : Fin 128) : EReal :=
  dense (hid a s n) (fun k => a.we2 (ix2 k o)) (a.be2 (ix1 o))
/-- A set's representation: the mean of its points'. -/
def rmean (s : Fin 16) (o : Fin 128) : EReal := (∑ n, rep a s n o) * ((1 / 64 : ℝ) : EReal)
/-- The latent's hidden layer. -/
def hr (s : Fin 16) (o : Fin 128) : EReal := max (dense (rmean a s) (fun k => a.wh (ix2 k o)) (a.bh (ix1 o))) 0
/-- The latent's mean. -/
def mu (s : Fin 16) (o : Fin 64) : EReal := dense (hr a s) (fun k => a.wmu (ix2 k o)) (a.bmu (ix1 o))
/-- A deviation from a rate: a tenth and nine tenths of it, as f32 rounds the two. -/
def dev (v : EReal) : EReal := Ideal.ofBits .f32 0x3DCCCCCD#32 + Ideal.ofBits .f32 0x3F666666#32 * v
/-- The latent's deviation. -/
def sigma (s : Fin 16) (o : Fin 64) : EReal :=
  dev (Ideal.div 1 (1 + Ideal.exp (-(dense (hr a s) (fun k => a.wsig (ix2 k o)) (a.bsig (ix1 o))))))
/-- The latent's sample. -/
def zed (s : Fin 16) (o : Fin 64) : EReal := mu a s o + sigma a s o * a.eps (ix2 s o)
/-- The decoder's input at target `t`: the target's position and the latent's sample. -/
def xz (s : Fin 16) (t : Fin 128) (k : Fin 65) : EReal :=
  if h : k.val < 1 then a.xt (ix3 s t 0) else zed a s ⟨k - 1, by omega⟩
/-- The decoder's first layer. -/
def dec1 (s : Fin 16) (t : Fin 128) (o : Fin 128) : EReal :=
  max (dense (xz a s t) (fun k => a.wd1 (ix2 k o)) (a.bd1 (ix1 o))) 0
/-- The decoder's second layer. -/
def dec2 (s : Fin 16) (t : Fin 128) (o : Fin 128) : EReal :=
  max (dense (dec1 a s t) (fun k => a.wd2 (ix2 k o)) (a.bd2 (ix1 o))) 0
/-- The predicted picture's mean. -/
def ymu (s : Fin 16) (t : Fin 128) (o : Fin 2500) : EReal :=
  dense (dec2 a s t) (fun k => a.wdmu (ix2 k o)) (a.bdmu (ix1 o))
/-- The predicted picture's deviation before the last activation. -/
def ypre (s : Fin 16) (t : Fin 128) (o : Fin 2500) : EReal :=
  dense (dec2 a s t) (fun k => a.wdsig (ix2 k o)) (a.bdsig (ix1 o))
/-- The predicted picture's deviation: nine tenths of `log (1 + exp t)`, written without overflow, and a tenth. -/
def ysig (s : Fin 16) (t : Fin 128) (o : Fin 2500) : EReal :=
  dev (max (ypre a s t o) 0 + Ideal.log1p (Ideal.exp (-(max (ypre a s t o) (-(ypre a s t o))))))

/-- A sum over the nine taps, written out. -/
theorem sum_nine {M : Type*} [AddCommMonoid M] (f : Fin 9 → M) :
    ∑ k, f k = f 0 + f 1 + f 2 + f 3 + f 4 + f 5 + f 6 + f 7 + f 8 := by
  rw [Fin.sum_univ_castSucc, Fin.sum_univ_eight]; rfl

/-- A convolution's entry, its nine taps written out. -/
theorem conv_nine {C : ℕ} (T : Fin C → Pic) (w : Fin C → Fin 3 → Fin 3 → EReal) (b : EReal) (r c : Fin 50) :
    conv T w b r c = max ((
      (∑ ch, pad50 (T ch) r c * w ch 0 0) + (∑ ch, pad50 (T ch) r (1 + c) * w ch 0 1)
      + (∑ ch, pad50 (T ch) r (2 + c) * w ch 0 2) + (∑ ch, pad50 (T ch) (1 + r) c * w ch 1 0)
      + (∑ ch, pad50 (T ch) (1 + r) (1 + c) * w ch 1 1) + (∑ ch, pad50 (T ch) (1 + r) (2 + c) * w ch 1 2)
      + (∑ ch, pad50 (T ch) (2 + r) c * w ch 2 0) + (∑ ch, pad50 (T ch) (2 + r) (1 + c) * w ch 2 1)
      + (∑ ch, pad50 (T ch) (2 + r) (2 + c) * w ch 2 2)) + b) 0 := by
  unfold conv
  rw [sum_nine]
  simp [tapR, tapC]

end Cert.Spec
end
-- ==== Proof.Flat.lean ====
/-
Pictures laid out as one row: a picture with its border of zeros is 52 rows of 52 laid end to end, 53 zeros before it and
zeros after it, so that a tap of a 3 by 3 window is a shift of the row. This module is about such rows alone.
-/
module

public import proofs.«01_k».proof.Proof.Spec
public import Idealize.ShloMosaic.Lib.Pipeline.ValueKit

@[expose] public section

noncomputable section

namespace Cert.Spec

open Idealize.ShloMosaic

/-- The row that holds a bordered picture, 53 zeros before it. -/
def flat (T : Pic) (q : ℕ) : EReal :=
  if 53 ≤ q ∧ q - 53 < 2704 then pad50 T ((q - 53) / 52) ((q - 53) % 52) else 0

/-- The picture of ones. -/
def ones : Pic := fun _ _ => 1

/-- How far each tap shifts the row. -/
def off : Fin 9 → ℕ := ![0, 1, 2, 52, 53, 54, 104, 105, 106]

theorem pad50_inside (T : Pic) (r c : Fin 50) : pad50 T (1 + r) (1 + c) = T r c := by
  unfold pad50
  rw [dif_pos ⟨⟨by omega, by omega⟩, ⟨by omega, by omega⟩⟩]
  congr 1 <;> exact Fin.ext (by simp)

theorem pad50_outside (T : Pic) (i j : ℕ) (h : ¬((1 ≤ i ∧ i - 1 < 50) ∧ (1 ≤ j ∧ j - 1 < 50))) : pad50 T i j = 0 := dif_neg h

/-- Shifted by tap `k`, the row at an inner place holds the picture under the tap. -/
theorem flat_tap (T : Pic) (k : Fin 9) (r c : Fin 50) :
    flat T ((52 * (1 + r) + (1 + c)) + off k) = pad50 T (tapR k + r) (tapC k + c) := by
  have hk : off k = 52 * (tapR k).val + (tapC k).val ∧ (tapR k).val < 3 ∧ (tapC k).val < 3 := by revert k; decide
  obtain ⟨hk, h1, h2⟩ := hk
  unfold flat
  rw [if_pos ⟨by omega, by omega⟩]
  congr 1 <;> omega

/-- A masked picture's row: where the mask's row is zero the picture's is zero too, elsewhere it holds the picture. -/
theorem flat_masked (T : Pic) (f : ℕ → EReal) (hf : ∀ r c : Fin 50, f (52 * (1 + r) + (1 + c)) = T r c) (q : ℕ) :
    (if q < 53 then 0 else if q - 53 < 2704 then f (q - 53) * flat ones (q - 53 + 53) else 0) = flat T q := by
  unfold flat
  by_cases h1 : q < 53
  · rw [if_pos h1, if_neg (by omega)]
  rw [if_neg h1]
  by_cases h2 : q - 53 < 2704
  · rw [if_pos h2, if_pos ⟨by omega, by omega⟩, if_pos ⟨by omega, h2⟩]
    have e : q - 53 + 53 - 53 = q - 53 := by omega
    rw [e]
    by_cases h3 : (1 ≤ (q - 53) / 52 ∧ (q - 53) / 52 - 1 < 50) ∧ (1 ≤ (q - 53) % 52 ∧ (q - 53) % 52 - 1 < 50)
    · unfold pad50
      rw [dif_pos h3, dif_pos h3, ← hf]
      unfold ones
      rw [mul_one]
      congr 1
      show q - 53 = 52 * (1 + ((q - 53) / 52 - 1)) + (1 + ((q - 53) % 52 - 1))
      omega
    · rw [pad50_outside _ _ _ h3, pad50_outside _ _ _ h3, mul_zero]
  · rw [if_neg h2, if_neg (fun h => h2 h.2)]

/-- A sum over a bordered side, whose two ends are zero. -/
theorem sum_border (f : Fin 52 → EReal) (h0 : f 0 = 0) (h1 : f 51 = 0) :
    ∑ i, f i = ∑ r : Fin 50, f ⟨1 + r, by omega⟩ := by
  rw [Fin.sum_univ_succ, Fin.sum_univ_castSucc]
  have e : (Fin.last 50).succ = (51 : Fin 52) := rfl
  rw [h0, e, h1, zero_add, add_zero]
  refine Finset.sum_congr rfl fun r _ => congrArg f (Fin.ext ?_)
  show r.val + 1 = 1 + r.val
  omega

/-- A sum over the row's 2704 places, masked, is the sum over the picture. -/
theorem sum_masked (f : ℕ → EReal) :
    ∑ p : Fin 2704, flat ones (p.val + 53) * f p = ∑ r : Fin 50, ∑ c : Fin 50, f (52 * (1 + r) + (1 + c)) := by
  have h : ∀ p : Fin 2704, flat ones (p.val + 53) * f p
      = (fun (i j : Fin 52) => pad50 ones i j * f (52 * i + j)) ⟨p / 52, by omega⟩ ⟨p % 52, by omega⟩ := by
    intro p
    unfold flat
    rw [if_pos ⟨by omega, by omega⟩]
    have e : p.val + 53 - 53 = p.val := by omega
    rw [e]
    simp only
    congr 2
    omega
  rw [Finset.sum_congr rfl fun p _ => h p, Fin.sum_univ_tiles 52 52 rfl]
  have h1 : ∀ i : Fin 52, (i = 0 ∨ i = 51) → ∀ j : ℕ, pad50 ones i j = 0 := by
    intro i hi j
    refine pad50_outside _ _ _ fun h => ?_
    rcases hi with rfl | rfl
    · exact absurd h.1.1 (by decide)
    · exact absurd h.1.2 (by decide)
  have h2 : ∀ j : Fin 52, (j = 0 ∨ j = 51) → ∀ i : ℕ, pad50 ones i j = 0 := by
    intro j hj i
    refine pad50_outside _ _ _ fun h => ?_
    rcases hj with rfl | rfl
    · exact absurd h.2.1 (by decide)
    · exact absurd h.2.2 (by decide)
  have h3 : ∀ i j : Fin 52, (fun (i j : Fin 52) => pad50 ones i j * f (52 * i + j)) ⟨(i.val * 52 + j.val) / 52, by omega⟩
      ⟨(i.val * 52 + j.val) % 52, by omega⟩ = pad50 ones i j * f (52 * i + j) := by
    intro i j
    have ei : (i.val * 52 + j.val) / 52 = i.val := by omega
    have ej : (i.val * 52 + j.val) % 52 = j.val := by omega
    simp only [ei, ej]
  rw [Finset.sum_congr rfl fun i _ => Finset.sum_congr rfl fun j _ => h3 i j]
  rw [sum_border _ (Finset.sum_eq_zero fun j _ => by rw [h1 0 (Or.inl rfl), zero_mul])
    (Finset.sum_eq_zero fun j _ => by rw [h1 51 (Or.inr rfl), zero_mul])]
  refine Finset.sum_congr rfl fun r _ => ?_
  rw [sum_border _ (by rw [h2 0 (Or.inl rfl), zero_mul]) (by rw [h2 51 (Or.inr rfl), zero_mul])]
  refine Finset.sum_congr rfl fun c _ => ?_
  rw [pad50_inside ones r c]
  exact one_mul _

end Cert.Spec
end
-- ==== Proof.KernelIdeal.EncVal.lean ====
/-
One point of the encoder's call, entry by entry: what the body computes from a point's bordered picture and its position
is the mathematics' two convolutions, the pooling and the two dense layers. The one place that needs finite numbers is the
first convolution: the body multiplies the position into the sum of the weights over the mask, the mathematics into every
tap.
-/
module

public import proofs.«01_k».proof.Proof.KernelIdeal.EncRow
public import proofs.«01_k».proof.Proof.Flat
public import Idealize.ShloMosaic.Lib.Pointwise

@[expose] public section

set_option maxRecDepth 16384

noncomputable section

namespace Cert.KernelIdeal.Enc

open Cert.KernelIdeal Cert.KernelIdeal.Gen Cert.Spec
open Idealize.ShloMosaic Idealize.ShloMosaic.TcCoe

/-- A finite extended real. -/
def Fin' (x : EReal) : Prop := ∃ r : ℝ, x = (r : EReal)

/-- A finite number goes into a sum of nine finite ones. -/
theorem mul_sum_nine (p : EReal) (f : Fin 9 → EReal) (hp : Fin' p) (hf : ∀ k, Fin' (f k)) : p * ∑ k, f k = ∑ k, p * f k := by
  obtain ⟨p, rfl⟩ := hp
  choose g hg using hf
  obtain rfl : f = fun k => (g k : EReal) := funext hg
  simp only [sum_nine, ← EReal.coe_mul, ← EReal.coe_add]
  congr 1
  ring

theorem pad50_ones (i j : ℕ) : Fin' (pad50 ones i j) := by
  unfold pad50
  split_ifs
  · exact ⟨1, rfl⟩
  · exact ⟨0, rfl⟩

theorem pad50_const (x : EReal) (i j : ℕ) : pad50 (fun _ _ => x) i j = x * pad50 ones i j := by
  unfold pad50
  split_ifs
  · exact (mul_one x).symm
  · exact (mul_zero x).symm

/-- Which of the shifted rows tap `k` reads. -/
theorem ladder (f : ℕ → EReal) (p : ℕ) (k : Fin 9) :
    (if k.val < 1 then f p else if k.val - 1 < 1 then f (1 + p) else if k.val - 1 - 1 < 1 then f (2 + p)
      else if k.val - 1 - 1 - 1 < 1 then f (52 + p) else if k.val - 1 - 1 - 1 - 1 < 1 then f (53 + p)
      else if k.val - 1 - 1 - 1 - 1 - 1 < 1 then f (54 + p) else if k.val - 1 - 1 - 1 - 1 - 1 - 1 < 1 then f (104 + p)
      else if k.val - 1 - 1 - 1 - 1 - 1 - 1 - 1 < 1 then f (105 + p) else f (106 + p)) = f (p + off k) := by
  fin_cases k <;> simp [off, add_comm]

/-! ## The first convolution -/

section

variable (x2 : Vec Ideal S1x2816 .f32) (hm : ∀ (i : Fin 1) (q : Fin 2816), x2 (ix2 i q) = flat ones q)

include hm in
/-- The mask the body multiplies by. -/
theorem mask_apply (i : Fin 1) (p : Fin 2704) : k0_pay5 x2 (ix2 i p) = flat ones (p + 53) := by
  pointwise [k0_pay5, k0_pay4]
  exact (hm _ _).trans (congrArg (flat ones) (Nat.add_comm _ _))

include hm in
/-- The position's weights over the mask. -/
theorem posw_apply (x4 : Vec Ideal S32x9 .bf16) (o : Fin 32) (p : Fin 2704) :
    k0_pay6 x2 x4 (ix2 o p) = ∑ k : Fin 9, x4 (ix2 o k) * flat ones (p + off k) := by
  pointwise [k0_pay6, k0_pay4]
  simp only [hm, dite_eq_ite, ladder (flat ones)]

variable (a : Args) (s : Fin 16) (n : Fin 64)

/-- The body's sum at an inner place is the first convolution's entry. -/
theorem conv1_flat (hx : Fin' (pos a s n)) (hw : ∀ o i j, Fin' (a.w1 (ix4 o 1 i j))) (o : Fin 32) (r c : Fin 50) :
    max ((∑ k, a.w1 (ix4 o 0 (tapR k) (tapC k)) * flat (pic a s n) ((52 * (1 + r) + (1 + c)) + off k))
      + pos a s n * (∑ k, a.w1 (ix4 o 1 (tapR k) (tapC k)) * flat ones ((52 * (1 + r) + (1 + c)) + off k))
      + a.b1 (ix1 o)) 0 = conv1 a s n o r c := by
  have hf : ∀ k, Fin' (a.w1 (ix4 o 1 (tapR k) (tapC k)) * pad50 ones (tapR k + r) (tapC k + c)) := fun k => by
    obtain ⟨u, hu⟩ := hw o (tapR k) (tapC k)
    obtain ⟨v, hv⟩ := pad50_ones (tapR k + r) (tapC k + c)
    exact ⟨u * v, by rw [hu, hv, EReal.coe_mul]⟩
  simp only [flat_tap]
  rw [mul_sum_nine _ _ hx hf]
  unfold conv1 conv
  simp only [Fin.sum_univ_two]
  rw [Finset.sum_add_distrib]
  have e0 : chan a s n 0 = pic a s n := rfl
  have e1 : chan a s n 1 = fun _ _ => pos a s n := rfl
  simp only [e0, e1, pad50_const (pos a s n)]
  congr 3
  · exact Finset.sum_congr rfl fun k _ => mul_comm _ _
  · refine Finset.sum_congr rfl fun k _ => ?_
    rw [mul_comm (a.w1 _), mul_assoc]

include hm in
/-- The first convolution's row. -/
theorem conv1_apply (hx : Fin' (pos a s n)) (hw : ∀ o i j, Fin' (a.w1 (ix4 o 1 i j)))
    (y : Vec Ideal S1x1x1x2816 .f32) (x : Vec Ideal S1x1x1x1 .f32) (x3 x4 : Vec Ideal S32x9 .bf16) (x5 : Vec Ideal S32x1 .f32)
    (hy : ∀ q : Fin 2816, y (ix4 0 0 0 q) = flat (pic a s n) q) (hp : x (ix4 0 0 0 0) = pos a s n)
    (h3 : ∀ o k, x3 (ix2 o k) = a.w1 (ix4 o 0 (tapR k) (tapC k)))
    (h4 : ∀ o k, x4 (ix2 o k) = a.w1 (ix4 o 1 (tapR k) (tapC k))) (h5 : ∀ o, x5 (ix2 o 0) = a.b1 (ix1 o))
    (o : Fin 32) (p : Fin 2810) :
    k0_pay44 (k0_pay5 x2) (k0_pay6 x2 x4) y x x3 x5 (ix2 o p) = flat (conv1 a s n o) p := by
  pointwise [k0_pay44, k0_pay43]
  simp only [hy, h3, hp, h5, dite_eq_ite, ladder (flat (pic a s n)), mask_apply x2 hm, posw_apply x2 hm, h4]
  exact flat_masked (conv1 a s n o) (fun p => max ((∑ k, a.w1 (ix4 o 0 (tapR k) (tapC k)) * flat (pic a s n) (p + off k))
      + pos a s n * (∑ k, a.w1 (ix4 o 1 (tapR k) (tapC k)) * flat ones (p + off k)) + a.b1 (ix1 o)) 0)
    (conv1_flat a s n hx hw o) p

/-! ## The second convolution and the pooling -/

/-- A shifted row at an inner place. -/
theorem flat_at (T : Pic) (r c : Fin 50) (d i j : ℕ) (hd : d = 52 * i + j) (hi : i < 3) (hj : j < 3) :
    flat T (d + (52 * (1 + r) + (1 + c))) = pad50 T (i + r) (j + c) := by
  subst hd
  unfold flat
  rw [if_pos ⟨by omega, by omega⟩]
  congr 1 <;> omega

/-- The second convolution's weights of a tap. -/
theorem w2_at (x6 : Vec Ideal S288x32 .bf16)
    (h6 : ∀ (k : Fin 288) (o : Fin 32), x6 (ix2 k o) = a.w2 (ix4 ⟨k % 32, by omega⟩ o ⟨k / 96, by omega⟩ ⟨k / 32 % 3, by omega⟩))
    (b : ℕ) (i j : Fin 3) (hb : b = 32 * (3 * i.val + j.val)) (o : ℕ) (ho : o < 32) (h : b + o < 288) (ch : Fin 32) :
    x6 (ix2 ⟨b + o, h⟩ ch) = a.w2 (ix4 ⟨o, ho⟩ ch i j) := by
  have e1 : (⟨(b + o) % 32, by omega⟩ : Fin 32) = ⟨o, ho⟩ := Fin.ext (by show (b + o) % 32 = o; omega)
  have e2 : (⟨(b + o) / 96, by omega⟩ : Fin 3) = i := Fin.ext (by show (b + o) / 96 = i.val; omega)
  have e3 : (⟨(b + o) / 32 % 3, by omega⟩ : Fin 3) = j := Fin.ext (by show (b + o) / 32 % 3 = j.val; omega)
  rw [h6, e1, e2, e3]

/-- A row of the second convolution before its cut, the nine taps in order. -/
def taps2 (o : Fin 32) (p : ℕ) : EReal :=
  max ((∑ ch, a.w2 (ix4 o ch 0 0) * flat (conv1 a s n ch) p)
    + (∑ ch, a.w2 (ix4 o ch 0 1) * flat (conv1 a s n ch) (1 + p)) + (∑ ch, a.w2 (ix4 o ch 0 2) * flat (conv1 a s n ch) (2 + p))
    + (∑ ch, a.w2 (ix4 o ch 1 0) * flat (conv1 a s n ch) (52 + p)) + (∑ ch, a.w2 (ix4 o ch 1 1) * flat (conv1 a s n ch) (53 + p))
    + (∑ ch, a.w2 (ix4 o ch 1 2) * flat (conv1 a s n ch) (54 + p)) + (∑ ch, a.w2 (ix4 o ch 2 0) * flat (conv1 a s n ch) (104 + p))
    + (∑ ch, a.w2 (ix4 o ch 2 1) * flat (conv1 a s n ch) (105 + p)) + (∑ ch, a.w2 (ix4 o ch 2 2) * flat (conv1 a s n ch) (106 + p))
    + a.b2 (ix1 o)) 0

theorem taps2_eq (o : Fin 32) (r c : Fin 50) : taps2 a s n o (52 * (1 + r) + (1 + c)) = conv2 a s n o r c := by
  unfold taps2 conv2
  rw [conv_nine]
  have t0 := fun T => flat_at T r c 0 0 0 rfl (by decide) (by decide)
  simp only [zero_add] at t0
  have t1 := fun T => flat_at T r c 1 0 1 rfl (by decide) (by decide)
  have t2 := fun T => flat_at T r c 2 0 2 rfl (by decide) (by decide)
  have t3 := fun T => flat_at T r c 52 1 0 rfl (by decide) (by decide)
  have t4 := fun T => flat_at T r c 53 1 1 rfl (by decide) (by decide)
  have t5 := fun T => flat_at T r c 54 1 2 rfl (by decide) (by decide)
  have t6 := fun T => flat_at T r c 104 2 0 rfl (by decide) (by decide)
  have t7 := fun T => flat_at T r c 105 2 1 rfl (by decide) (by decide)
  have t8 := fun T => flat_at T r c 106 2 2 rfl (by decide) (by decide)
  simp only [zero_add] at t1 t2 t3 t6
  simp only [t0, t1, t2, t3, t4, t5, t6, t7, t8, mul_comm (a.w2 _)]

include hm in
/-- A point's features from its first convolution's row. -/
theorem pooled_apply (x : Vec Ideal S1x1x1x1 .f32) (H : FVec Ideal S32x2810 .bf16) (x6 : Vec Ideal S288x32 .bf16)
    (x7 : Vec Ideal S32x1 .f32) (hp : x (ix4 0 0 0 0) = pos a s n)
    (hH : ∀ (ch : Fin 32) (p : Fin 2810), H (ix2 ch p) = flat (conv1 a s n ch) p)
    (h6 : ∀ (k : Fin 288) (o : Fin 32), x6 (ix2 k o) = a.w2 (ix4 ⟨k % 32, by omega⟩ o ⟨k / 96, by omega⟩ ⟨k / 32 % 3, by omega⟩))
    (h7 : ∀ o, x7 (ix2 o 0) = a.b2 (ix1 o)) (o : Fin 33) :
    k0_pay45 (k0_pay5 x2) (k0_pay43 x) H x6 x7 (ix2 0 o) = Spec.feat a s n o := by
  pointwise [k0_pay45, k0_pay43]
  unfold Spec.feat
  by_cases ho : o.val < 32
  · rw [dif_pos ho, dif_pos ho]
    have w0 : ∀ (h : o.val < 288) (ch : Fin 32), x6 (ix2 ⟨o.val, h⟩ ch) = a.w2 (ix4 ⟨o.val, ho⟩ ch 0 0) := fun h ch => by
      rw [← w2_at a x6 h6 0 0 0 rfl o.val ho (by omega) ch]
      exact congrArg (fun q => x6 (ix2 q ch)) (Fin.ext (Nat.zero_add _).symm)
    have w1 := w2_at a x6 h6 32 0 1 rfl o.val ho
    have w2 := w2_at a x6 h6 64 0 2 rfl o.val ho
    have w3 := w2_at a x6 h6 96 1 0 rfl o.val ho
    have w4 := w2_at a x6 h6 128 1 1 rfl o.val ho
    have w5 := w2_at a x6 h6 160 1 2 rfl o.val ho
    have w6 := w2_at a x6 h6 192 2 0 rfl o.val ho
    have w7 := w2_at a x6 h6 224 2 1 rfl o.val ho
    have w8 := w2_at a x6 h6 256 2 2 rfl o.val ho
    simp only [hH, h7, w0, w1, w2, w3, w4, w5, w6, w7, w8, mask_apply x2 hm]
    unfold pooled
    simp only [← taps2_eq]
    rw [← sum_masked (taps2 a s n ⟨o, ho⟩)]
    rfl
  · rw [dif_neg ho, dif_neg ho, hp]

end

/-! ## The two dense layers -/

theorem netRows_rows (r : Fin 16 → FVec Ideal S1x33 .f32) (h) (i : Fin 16) (k : Fin 33) :
    concatenate S16x33 0 [⟨S1x33, r 0⟩, ⟨S1x33, r 1⟩, ⟨S1x33, r 2⟩, ⟨S1x33, r 3⟩, ⟨S1x33, r 4⟩, ⟨S1x33, r 5⟩, ⟨S1x33, r 6⟩,
      ⟨S1x33, r 7⟩, ⟨S1x33, r 8⟩, ⟨S1x33, r 9⟩, ⟨S1x33, r 10⟩, ⟨S1x33, r 11⟩, ⟨S1x33, r 12⟩, ⟨S1x33, r 13⟩, ⟨S1x33, r 14⟩,
      ⟨S1x33, r 15⟩] h (ix2 i k) = r i (ix2 0 k) := by
  refine concatenate_ofFn_unit_apply (s₁ := S1x33) (t := S16x33) 0 r h rfl rfl (ix2 i k) i rfl (ix2 0 k) ?_
  intro b hb
  fin_cases b
  · exact absurd rfl hb
  · rfl

/-- The two layers over sixteen rows of features. -/
def netOf (C : FVec Ideal S16x33 .f32) (we1 : Vec Ideal S33x128 .bf16) (be1 : Vec Ideal S1x128 .f32)
    (we2 : Vec Ideal S128x128 .bf16) : FVec Ideal S16x128 .f32 :=
  matmul dot_S16x128_S128x128_S16x128_1_0_0_1_n_n none
    (truncf .bf16 (maximumf (addf
      (matmul dot_S16x33_S33x128_S16x128_1_0_0_1_n_n none (truncf .bf16 C bitsLt_bf16_f32)
        (shapeCast S33x128 we1 shapeCasts_S33x128_S33x128 : FVec Ideal S33x128 .bf16) (constant S16x128 .f32 0x00000000#32))
      (broadcastTo S16x128 (shapeCast S1x128 be1 shapeCasts_S1x128_S1x128) broadcasts_S1x128_S16x128))
      (broadcast S16x128 (Scalar.ofBits .f32 0x00000000#32))) bitsLt_bf16_f32)
    (shapeCast S128x128 we2 shapeCasts_S128x128_S128x128 : FVec Ideal S128x128 .bf16) (constant S16x128 .f32 0x00000000#32)

theorem netOf_apply (C : FVec Ideal S16x33 .f32) (we1 : Vec Ideal S33x128 .bf16) (be1 : Vec Ideal S1x128 .f32)
    (we2 : Vec Ideal S128x128 .bf16) (i : Fin 16) (o : Fin 128) :
    netOf C we1 be1 we2 (ix2 i o) = ∑ k, max ((∑ j, C (ix2 i j) * we1 (ix2 j k)) + be1 (ix2 0 k)) 0 * we2 (ix2 k o) := by
  pointwise [netOf]

/-- The two layers at point `i`. -/
theorem netRows_apply (r : Fin 16 → FVec Ideal S1x33 .f32) (we1 : Vec Ideal S33x128 .bf16) (be1 : Vec Ideal S1x128 .f32)
    (we2 : Vec Ideal S128x128 .bf16) (i : Fin 16) (o : Fin 128) :
    netRows r we1 be1 we2 (ix2 i o)
      = ∑ k, max ((∑ j, r i (ix2 0 j) * we1 (ix2 j k)) + be1 (ix2 0 k)) 0 * we2 (ix2 k o) := by
  refine (netOf_apply _ we1 be1 we2 i o).trans ?_
  refine Finset.sum_congr rfl fun k _ => congrArg (fun v => max (v + be1 (ix2 0 k)) 0 * we2 (ix2 k o)) ?_
  exact Finset.sum_congr rfl fun j _ => congrArg (· * we1 (ix2 j k)) (netRows_rows r _ i j)

/-! ## A step's block -/

variable (x0 : Vec Ideal S1x16x1x2816 .f32) (x1 : Vec Ideal S1x1x1x16 .f32) (x2 : Vec Ideal S1x2816 .f32)
  (x3 x4 : Vec Ideal S32x9 .bf16) (x5 : Vec Ideal S32x1 .f32) (x6 : Vec Ideal S288x32 .bf16) (x7 : Vec Ideal S32x1 .f32)
  (x8 : Vec Ideal S33x128 .bf16) (x9 : Vec Ideal S1x128 .f32) (x10 : Vec Ideal S128x128 .bf16) (x11 : Vec Ideal S1x128 .f32)

/-- The sum a step adds: its sixteen points' rows, each with the last bias. -/
def stepSum (o : Fin 128) : EReal :=
  ∑ i : Fin 16, (netRows (feat x0 x1 x2 x3 x4 x5 x6 x7) x8 x9 x10 (ix2 i o) + x11 (ix2 0 o))

theorem first_apply (o : Fin 128) :
    k0_pay2 (netRows (feat x0 x1 x2 x3 x4 x5 x6 x7) x8 x9 x10) (k0_pay99 x11) (ix3 0 0 o)
      = stepSum x0 x1 x2 x3 x4 x5 x6 x7 x8 x9 x10 x11 o := by
  unfold stepSum
  generalize netRows (feat x0 x1 x2 x3 x4 x5 x6 x7) x8 x9 x10 = N
  pointwise [k0_pay2, k0_pay1, k0_pay99]

theorem later_apply (xo : Vec Ideal S1x1x128 .f32) (o : Fin 128) :
    k0_pay3 (netRows (feat x0 x1 x2 x3 x4 x5 x6 x7) x8 x9 x10) (k0_pay99 x11) xo (ix3 0 0 o)
      = xo (ix3 0 0 o) + stepSum x0 x1 x2 x3 x4 x5 x6 x7 x8 x9 x10 x11 o := by
  unfold stepSum
  generalize netRows (feat x0 x1 x2 x3 x4 x5 x6 x7) x8 x9 x10 = N
  pointwise [k0_pay3, k0_pay1, k0_pay99]

/-- What a step over block `g` of set `s` adds: the representations of its sixteen points. -/
theorem stepSum_eq (a : Args) (s : Fin 16) (g : Fin 4)
    (hx : ∀ n, Fin' (pos a s n)) (hw : ∀ o i j, Fin' (a.w1 (ix4 o 1 i j)))
    (h0 : ∀ (i : Fin 16) (q : Fin 2816), x0 (ix4 0 i 0 q) = flat (pic a s ⟨g * 16 + i, by omega⟩) q)
    (h1 : ∀ i : Fin 16, x1 (ix4 0 0 0 i) = pos a s ⟨g * 16 + i, by omega⟩)
    (h2 : ∀ (i : Fin 1) (q : Fin 2816), x2 (ix2 i q) = flat ones q)
    (h3 : ∀ o k, x3 (ix2 o k) = a.w1 (ix4 o 0 (tapR k) (tapC k)))
    (h4 : ∀ o k, x4 (ix2 o k) = a.w1 (ix4 o 1 (tapR k) (tapC k))) (h5 : ∀ o, x5 (ix2 o 0) = a.b1 (ix1 o))
    (h6 : ∀ (k : Fin 288) (o : Fin 32), x6 (ix2 k o) = a.w2 (ix4 ⟨k % 32, by omega⟩ o ⟨k / 96, by omega⟩ ⟨k / 32 % 3, by omega⟩))
    (h7 : ∀ o, x7 (ix2 o 0) = a.b2 (ix1 o)) (h8 : ∀ k o, x8 (ix2 k o) = a.we1 (ix2 k o)) (h9 : ∀ o, x9 (ix2 0 o) = a.be1 (ix1 o))
    (h10 : ∀ k o, x10 (ix2 k o) = a.we2 (ix2 k o)) (h11 : ∀ o, x11 (ix2 0 o) = a.be2 (ix1 o)) (o : Fin 128) :
    stepSum x0 x1 x2 x3 x4 x5 x6 x7 x8 x9 x10 x11 o = ∑ i : Fin 16, rep a s ⟨g * 16 + i, by omega⟩ o := by
  refine Finset.sum_congr rfl fun i _ => ?_
  rw [netRows_apply]
  have hy : ∀ q : Fin 2816, yRow x0 i (ix4 0 0 0 q) = flat (pic a s ⟨g * 16 + i, by omega⟩) q := fun q => by
    rw [← h0 i q]
    unfold yRow
    pointwise
  have hp : xCell x1 i (ix4 0 0 0 0) = pos a s ⟨g * 16 + i, by omega⟩ := by
    rw [← h1 i]
    unfold xCell
    pointwise
  have hf : ∀ j, feat x0 x1 x2 x3 x4 x5 x6 x7 i (ix2 0 j) = Spec.feat a s ⟨g * 16 + i, by omega⟩ j := fun j =>
    pooled_apply x2 h2 a s _ (xCell x1 i) _ x6 x7 hp
      (fun ch p => conv1_apply x2 h2 a s _ (hx _) hw (yRow x0 i) (xCell x1 i) x3 x4 x5 hy hp h3 h4 h5 ch p) h6 h7 j
  simp only [hf, h8, h9, h10, h11]
  rfl

end Cert.KernelIdeal.Enc
end
-- ==== Proof.KernelIdeal.Entry.lean ====
/-
What the two calls are entered with: every array the host prepares, at an index, as an element of the problem's arrays.
-/
module

public import proofs.«01_k».proof.Proof.KernelIdeal.Launch
public import proofs.«01_k».proof.Proof.Flat
public import Idealize.ShloMosaic.Lib.Claim
public import Idealize.ShloMosaic.Lib.IdealHost

@[expose] public section

set_option maxRecDepth 16384

noncomputable section

namespace Cert.KernelIdeal.Entry

open Cert.KernelIdeal Cert.KernelIdeal.Gen Cert.KernelIdeal.Launch Cert.Spec
open Idealize.ShloMosaic Idealize.ShloMosaic.TcCoe

variable (m : (ℓ : Loc nD τ sig) → Buf (Elt Ideal) ℓ) (c : Dev nD)

/-- The problem's arrays, as a launch finds them. -/
def argsOf : Args where
  x := m (c, Proc.devRef .tc main_arg0)
  y := m (c, Proc.devRef .tc main_arg1)
  xt := m (c, Proc.devRef .tc main_arg2)
  eps := m (c, Proc.devRef .tc main_arg3)
  w1 := m (c, Proc.devRef .tc main_arg4)
  b1 := m (c, Proc.devRef .tc main_arg5)
  w2 := m (c, Proc.devRef .tc main_arg6)
  b2 := m (c, Proc.devRef .tc main_arg7)
  we1 := m (c, Proc.devRef .tc main_arg8)
  be1 := m (c, Proc.devRef .tc main_arg9)
  we2 := m (c, Proc.devRef .tc main_arg10)
  be2 := m (c, Proc.devRef .tc main_arg11)
  wh := m (c, Proc.devRef .tc main_arg12)
  bh := m (c, Proc.devRef .tc main_arg13)
  wmu := m (c, Proc.devRef .tc main_arg14)
  bmu := m (c, Proc.devRef .tc main_arg15)
  wsig := m (c, Proc.devRef .tc main_arg16)
  bsig := m (c, Proc.devRef .tc main_arg17)
  wd1 := m (c, Proc.devRef .tc main_arg18)
  bd1 := m (c, Proc.devRef .tc main_arg19)
  wd2 := m (c, Proc.devRef .tc main_arg20)
  bd2 := m (c, Proc.devRef .tc main_arg21)
  wdmu := m (c, Proc.devRef .tc main_arg22)
  bdmu := m (c, Proc.devRef .tc main_arg23)
  wdsig := m (c, Proc.devRef .tc main_arg24)
  bdsig := m (c, Proc.devRef .tc main_arg25)

theorem sitofp_zero : (FloatOps.sitofp (F := Ideal) FTy.f32 (0#32 : BitVec 32)) = (0 : EReal) := by
  show (((0#32 : BitVec 32).toInt : ℝ) : EReal) = 0
  simp

theorem tapR_eq (k : Fin 9) : tapR k = ⟨k / 3, by omega⟩ := by revert k; decide
theorem tapC_eq (k : Fin 9) : tapC k = ⟨k % 3, by omega⟩ := by revert k; decide

theorem V0_y : V0 m c (Proc.tc.devRef main_arg1) = (argsOf m c).y := rfl

/-- An argument reaches the decoder's call as launched. -/
theorem V10_arg (outs) (r : Ref sig .tc)
    (h : r ∉ [main_v27] ++ hostOps0_8_W ++ hostOps0_7_W ++ hostOps0_6_W ++ hostOps0_5_W ++ hostOps0_4_W ++ hostOps0_3_W
      ++ hostOps0_2_W ++ hostOps0_1_W ++ hostOps0_W) : V10 m outs c r = m (c, Proc.devRef .tc r) := by
  simp only [List.mem_append, not_or] at h
  obtain ⟨⟨⟨⟨⟨⟨⟨⟨⟨h9, h8⟩, h7⟩, h6⟩, h5⟩, h4⟩, h3⟩, h2⟩, h1⟩, h0⟩ := h
  exact (V10_of m outs c r h9).trans <| (V9_of m c r h8).trans <| (V8_of m c r h7).trans <| (V7_of m c r h6).trans <|
    (V6_of m c r h5).trans <| (V5_of m c r h4).trans <| (V4_of m c r h3).trans <| (V3_of m c r h2).trans <|
    (V2_of m c r h1).trans <| V1_of m c r h0

/-! ## The encoder's call -/

/-- The context pictures, each as one bordered row. -/
def ey : Arr ⟨4, ![16, 64, 1, 2816]⟩ := Ve0 m c main_v4

theorem ey_apply (s : Fin 16) (n : Fin 64) (q : Fin 2816) : ey m c (ix4 s n 0 q) = flat (pic (argsOf m c) s n) q := by
  unfold ey
  dsimp only [Ve0, V9, V8, V7, V6, V5, V4, V3, V2, V1]
  entry_read
  pointwise
  simp only [StableHlo.TRef.toBuf, StableHlo.TRef.ofBuf, cast_eq]
  pointwise
  simp only [sitofp_zero, V0_y]
  unfold flat pad50 pic
  split_ifs
  · rfl
  · rfl
  · rfl

/-- The context positions, sixteen to a block. -/
def ex : Arr ⟨4, ![16, 4, 1, 16]⟩ := Ve0 m c main_v5

theorem ex_apply (s : Fin 16) (g : Fin 4) (i : Fin 16) : ex m c (ix4 s g 0 i) = (argsOf m c).x (ix3 s ⟨g * 16 + i, by omega⟩ 0) := by
  unfold ex
  dsimp only [Ve0, V9, V8, V7, V6, V5, V4, V3, V2, V1]
  entry_read
  pointwise
  rfl

/-- The mask: a picture of ones as one bordered row. -/
def em : Arr ⟨2, ![1, 2816]⟩ := Ve0 m c main_v9

theorem em_apply (q : Fin 2816) : em m c (ix2 0 q) = flat ones q := by
  unfold em
  dsimp only [Ve0, V9, V8, V7, V6, V5, V4, V3, V2, V1]
  entry_read
  pointwise
  simp only [StableHlo.TRef.toBuf, StableHlo.TRef.ofBuf, cast_eq]
  pointwise
  simp only [sitofp_zero]
  unfold flat pad50
  by_cases h1 : 53 ≤ q.val ∧ q.val - 53 < 2704
  · rw [dif_pos h1, if_pos h1]
    by_cases h2 : (1 ≤ (q.val - 53) / 52 ∧ (q.val - 53) / 52 - 1 < 50) ∧ (1 ≤ (q.val - 53) % 52 ∧ (q.val - 53) % 52 - 1 < 50)
    · rw [dif_pos h2, dif_pos h2]
      rfl
    · rw [dif_neg h2, dif_neg h2]
  · rw [dif_neg h1, if_neg h1]

/-- The first convolution's weights of the picture, a column per tap. -/
def ew1y : Arr ⟨2, ![32, 9]⟩ := Ve0 m c main_v13

theorem ew1y_apply (o : Fin 32) (k : Fin 9) : ew1y m c (ix2 o k) = (argsOf m c).w1 (ix4 o 0 (tapR k) (tapC k)) := by
  unfold ew1y
  dsimp only [Ve0, V9, V8, V7, V6, V5, V4, V3, V2, V1]
  entry_read
  pointwise
  rw [tapR_eq, tapC_eq]
  rfl

/-- The first convolution's weights of the position, a column per tap. -/
def ew1x : Arr ⟨2, ![32, 9]⟩ := Ve0 m c main_v17

theorem ew1x_apply (o : Fin 32) (k : Fin 9) : ew1x m c (ix2 o k) = (argsOf m c).w1 (ix4 o 1 (tapR k) (tapC k)) := by
  unfold ew1x
  dsimp only [Ve0, V9, V8, V7, V6, V5, V4, V3, V2, V1]
  entry_read
  pointwise
  rw [tapR_eq, tapC_eq]
  rfl

/-- The first convolution's offsets. -/
def eb1 : Arr ⟨2, ![32, 1]⟩ := Ve0 m c main_v18

theorem eb1_apply (o : Fin 32) : eb1 m c (ix2 o 0) = (argsOf m c).b1 (ix1 o) := by
  unfold eb1
  dsimp only [Ve0, V9, V8, V7, V6, V5, V4, V3, V2, V1]
  entry_read
  pointwise
  rfl

/-- The second convolution's weights: 32 rows for each tap. -/
def ew2 : Arr ⟨2, ![288, 32]⟩ := Ve0 m c main_v21

theorem ew2_apply (k : Fin 288) (o : Fin 32) : ew2 m c (ix2 k o) = (argsOf m c).w2 (ix4 ⟨k % 32, by omega⟩ o ⟨k / 96, by omega⟩ ⟨k / 32 % 3, by omega⟩) := by
  unfold ew2
  dsimp only [Ve0, V9, V8, V7, V6, V5, V4, V3, V2, V1]
  entry_read
  pointwise
  rfl

/-- The second convolution's offsets. -/
def eb2 : Arr ⟨2, ![32, 1]⟩ := Ve0 m c main_v22

theorem eb2_apply (o : Fin 32) : eb2 m c (ix2 o 0) = (argsOf m c).b2 (ix1 o) := by
  unfold eb2
  dsimp only [Ve0, V9, V8, V7, V6, V5, V4, V3, V2, V1]
  entry_read
  pointwise
  rfl

/-- The encoder's first dense layer. -/
def ewe1 : Arr ⟨2, ![33, 128]⟩ := Ve0 m c main_v25

theorem ewe1_apply (k : Fin 33) (o : Fin 128) : ewe1 m c (ix2 k o) = (argsOf m c).we1 (ix2 k o) := by
  unfold ewe1
  dsimp only [Ve0, V9, V8, V7, V6, V5, V4, V3, V2, V1]
  entry_read
  pointwise
  rfl

/-- The encoder's first dense offsets. -/
def ebe1 : Arr ⟨2, ![1, 128]⟩ := Ve0 m c main_v23

theorem ebe1_apply (o : Fin 128) : ebe1 m c (ix2 0 o) = (argsOf m c).be1 (ix1 o) := by
  unfold ebe1
  dsimp only [Ve0, V9, V8, V7, V6, V5, V4, V3, V2, V1]
  entry_read
  pointwise
  rfl

/-- The encoder's second dense layer. -/
def ewe2 : Arr ⟨2, ![128, 128]⟩ := Ve0 m c main_v26

theorem ewe2_apply (k o : Fin 128) : ewe2 m c (ix2 k o) = (argsOf m c).we2 (ix2 k o) := by
  unfold ewe2
  dsimp only [Ve0, V9, V8, V7, V6, V5, V4, V3, V2, V1]
  entry_read
  pointwise
  rfl

/-- The encoder's second dense offsets. -/
def ebe2 : Arr ⟨2, ![1, 128]⟩ := Ve0 m c main_v24

theorem ebe2_apply (o : Fin 128) : ebe2 m c (ix2 0 o) = (argsOf m c).be2 (ix1 o) := by
  unfold ebe2
  dsimp only [Ve0, V9, V8, V7, V6, V5, V4, V3, V2, V1]
  entry_read
  pointwise
  rfl

/-! ## The decoder's call -/

/-- The target positions. -/
def dxt : Arr ⟨3, ![16, 128, 1]⟩ := Ve1 m c main_arg2

theorem dxt_apply (s : Fin 16) (t : Fin 128) : dxt m c (ix3 s t 0) = (argsOf m c).xt (ix3 s t 0) := by
  unfold dxt
  dsimp only [Ve1, V11]
  entry_read
  exact congrFun (V10_arg m c (outsA m) main_arg2 (by decide)) _

/-- The draws. -/
def deps : Arr ⟨3, ![16, 1, 64]⟩ := Ve1 m c main_v28

theorem deps_apply (s : Fin 16) (o : Fin 64) : deps m c (ix3 s 0 o) = (argsOf m c).eps (ix2 s o) := by
  unfold deps
  dsimp only [Ve1, V11]
  entry_read
  pointwise
  exact congrFun (V10_arg m c (outsA m) main_arg3 (by decide)) _

/-- The layer above the mean: weights. -/
def dhw : Arr ⟨2, ![128, 128]⟩ := Ve1 m c main_v29

theorem dhw_apply (k : Fin 128) (o : Fin 128) : dhw m c (ix2 k o) = (argsOf m c).wh (ix2 k o) := by
  unfold dhw
  dsimp only [Ve1, V11]
  entry_read
  pointwise
  exact congrFun (V10_arg m c (outsA m) main_arg12 (by decide)) _

/-- The layer above the mean: offsets. -/
def dhb : Arr ⟨2, ![1, 128]⟩ := Ve1 m c main_v30

theorem dhb_apply (o : Fin 128) : dhb m c (ix2 0 o) = (argsOf m c).bh (ix1 o) := by
  unfold dhb
  dsimp only [Ve1, V11]
  entry_read
  pointwise
  exact congrFun (V10_arg m c (outsA m) main_arg13 (by decide)) _

/-- The layer of the means: weights. -/
def dmuw : Arr ⟨2, ![128, 64]⟩ := Ve1 m c main_v31

theorem dmuw_apply (k : Fin 128) (o : Fin 64) : dmuw m c (ix2 k o) = (argsOf m c).wmu (ix2 k o) := by
  unfold dmuw
  dsimp only [Ve1, V11]
  entry_read
  pointwise
  exact congrFun (V10_arg m c (outsA m) main_arg14 (by decide)) _

/-- The layer of the means: offsets. -/
def dmub : Arr ⟨2, ![1, 64]⟩ := Ve1 m c main_v32

theorem dmub_apply (o : Fin 64) : dmub m c (ix2 0 o) = (argsOf m c).bmu (ix1 o) := by
  unfold dmub
  dsimp only [Ve1, V11]
  entry_read
  pointwise
  exact congrFun (V10_arg m c (outsA m) main_arg15 (by decide)) _

/-- The layer of the deviations: weights. -/
def dsgw : Arr ⟨2, ![128, 64]⟩ := Ve1 m c main_v33

theorem dsgw_apply (k : Fin 128) (o : Fin 64) : dsgw m c (ix2 k o) = (argsOf m c).wsig (ix2 k o) := by
  unfold dsgw
  dsimp only [Ve1, V11]
  entry_read
  pointwise
  exact congrFun (V10_arg m c (outsA m) main_arg16 (by decide)) _

/-- The layer of the deviations: offsets. -/
def dsgb : Arr ⟨2, ![1, 64]⟩ := Ve1 m c main_v34

theorem dsgb_apply (o : Fin 64) : dsgb m c (ix2 0 o) = (argsOf m c).bsig (ix1 o) := by
  unfold dsgb
  dsimp only [Ve1, V11]
  entry_read
  pointwise
  exact congrFun (V10_arg m c (outsA m) main_arg17 (by decide)) _

/-- The decoder's second layer: weights. -/
def d2w : Arr ⟨2, ![128, 128]⟩ := Ve1 m c main_v40

theorem d2w_apply (k : Fin 128) (o : Fin 128) : d2w m c (ix2 k o) = (argsOf m c).wd2 (ix2 k o) := by
  unfold d2w
  dsimp only [Ve1, V11]
  entry_read
  pointwise
  exact congrFun (V10_arg m c (outsA m) main_arg20 (by decide)) _

/-- The decoder's second layer: offsets. -/
def d2b : Arr ⟨2, ![1, 128]⟩ := Ve1 m c main_v41

theorem d2b_apply (o : Fin 128) : d2b m c (ix2 0 o) = (argsOf m c).bd2 (ix1 o) := by
  unfold d2b
  dsimp only [Ve1, V11]
  entry_read
  pointwise
  exact congrFun (V10_arg m c (outsA m) main_arg21 (by decide)) _

/-- The pictures' layer: weights. -/
def dymw : Arr ⟨2, ![128, 2500]⟩ := Ve1 m c main_v42

theorem dymw_apply (k : Fin 128) (o : Fin 2500) : dymw m c (ix2 k o) = (argsOf m c).wdmu (ix2 k o) := by
  unfold dymw
  dsimp only [Ve1, V11]
  entry_read
  pointwise
  exact congrFun (V10_arg m c (outsA m) main_arg22 (by decide)) _

/-- The pictures' layer: offsets. -/
def dymb : Arr ⟨2, ![1, 2500]⟩ := Ve1 m c main_v43

theorem dymb_apply (o : Fin 2500) : dymb m c (ix2 0 o) = (argsOf m c).bdmu (ix1 o) := by
  unfold dymb
  dsimp only [Ve1, V11]
  entry_read
  pointwise
  exact congrFun (V10_arg m c (outsA m) main_arg23 (by decide)) _

/-- The pictures' deviations' layer: weights. -/
def dysw : Arr ⟨2, ![128, 2500]⟩ := Ve1 m c main_v44

theorem dysw_apply (k : Fin 128) (o : Fin 2500) : dysw m c (ix2 k o) = (argsOf m c).wdsig (ix2 k o) := by
  unfold dysw
  dsimp only [Ve1, V11]
  entry_read
  pointwise
  exact congrFun (V10_arg m c (outsA m) main_arg24 (by decide)) _

/-- The pictures' deviations' layer: offsets. -/
def dysb : Arr ⟨2, ![1, 2500]⟩ := Ve1 m c main_v45

theorem dysb_apply (o : Fin 2500) : dysb m c (ix2 0 o) = (argsOf m c).bdsig (ix1 o) := by
  unfold dysb
  dsimp only [Ve1, V11]
  entry_read
  pointwise
  exact congrFun (V10_arg m c (outsA m) main_arg25 (by decide)) _

/-- The decoder's first layer: the position's weights. -/
def d1x : Arr ⟨2, ![1, 128]⟩ := Ve1 m c main_v36

theorem d1x_apply (o : Fin 128) : d1x m c (ix2 0 o) = (argsOf m c).wd1 (ix2 0 o) := by
  unfold d1x
  dsimp only [Ve1, V11]
  entry_read
  pointwise
  exact congrFun (V10_arg m c (outsA m) main_arg18 (by decide)) _

/-- The decoder's first layer: the draw's weights. -/
def d1z : Arr ⟨2, ![64, 128]⟩ := Ve1 m c main_v38

theorem d1z_apply (k : Fin 64) (o : Fin 128) : d1z m c (ix2 k o) = (argsOf m c).wd1 (ix2 ⟨1 + k, by omega⟩ o) := by
  unfold d1z
  dsimp only [Ve1, V11]
  entry_read
  pointwise
  exact congrFun (V10_arg m c (outsA m) main_arg18 (by decide)) _

/-- The decoder's first layer: offsets. -/
def d1b : Arr ⟨2, ![1, 128]⟩ := Ve1 m c main_v39

theorem d1b_apply (o : Fin 128) : d1b m c (ix2 0 o) = (argsOf m c).bd1 (ix1 o) := by
  unfold d1b
  dsimp only [Ve1, V11]
  entry_read
  pointwise
  exact congrFun (V10_arg m c (outsA m) main_arg19 (by decide)) _

end Cert.KernelIdeal.Entry
end
-- ==== Proof.KernelIdeal.EncArr.lean ====
/-
What each grid point of the encoder's call is given, as the problem's arrays, and what its step adds.
-/
module

public import proofs.«01_k».proof.Proof.KernelIdeal.EncVal
public import proofs.«01_k».proof.Proof.KernelIdeal.Entry

@[expose] public section

set_option maxRecDepth 16384

noncomputable section

namespace Cert.KernelIdeal.Entry

open Cert.KernelIdeal Cert.KernelIdeal.Gen Cert.KernelIdeal.Launch Cert.Spec
open Idealize.ShloMosaic Idealize.ShloMosaic.TcCoe

variable (m : (ℓ : Loc nD τ sig) → Buf (Elt Ideal) ℓ) (c : Dev nD)

theorem N0 : cfg0.N = 64 := N_0

/-- The set a grid point of the encoder's call works on. -/
def setOf (t : Fin cfg0.N) : Fin 16 := ⟨t.val / 4, by have := t.isLt; have := N0; omega⟩
/-- The block of sixteen points it works on. -/
def grpOf (t : Fin cfg0.N) : Fin 4 := ⟨t.val % 4, by omega⟩

theorem idx0 : ∀ t : Fin cfg0.N, win0_0.index t = ![t.val / 4, t.val % 4, 0, 0] := (by decide +kernel : ∀ t : Fin grid0.N, _)
theorem idx1 : ∀ t : Fin cfg0.N, win0_1.index t = ![t.val / 4, t.val % 4, 0, 0] := (by decide +kernel : ∀ t : Fin grid0.N, _)
/-- The weights' windows stay at the array's start. -/
theorem idxw : ∀ t : Fin cfg0.N, (win0_2.index t = ![0, 0] ∧ win0_3.index t = ![0, 0] ∧ win0_4.index t = ![0, 0]
    ∧ win0_5.index t = ![0, 0] ∧ win0_6.index t = ![0, 0]) ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)
theorem idx12 : ∀ t : Fin cfg0.N, win0_12.index t = ![t.val / 4, 0, 0] := (by decide +kernel : ∀ t : Fin grid0.N, _)

/-- What the step at a point adds. -/
def stepAt (t : Fin cfg0.N) (o : Fin 128) : EReal :=
  Enc.stepSum (Enc.iblk (Ve0 m) c 0 t) (Enc.iblk (Ve0 m) c 1 t) (Enc.iblk (Ve0 m) c 2 t) (Enc.iblk (Ve0 m) c 3 t)
    (Enc.iblk (Ve0 m) c 4 t) (Enc.iblk (Ve0 m) c 5 t) (Enc.iblk (Ve0 m) c 6 t) (Enc.iblk (Ve0 m) c 7 t)
    (Enc.iblk (Ve0 m) c 8 t) (Enc.iblk (Ve0 m) c 9 t) (Enc.iblk (Ve0 m) c 10 t) (Enc.iblk (Ve0 m) c 11 t) o

/-- The arrays the mathematics needs finite: the positions and the first convolution's weights of the position. -/
def Finite (a : Args) : Prop := (∀ s n, Enc.Fin' (pos a s n)) ∧ ∀ o i j, Enc.Fin' (a.w1 (ix4 o 1 i j))

set_option maxHeartbeats 2000000 in
/-- The representations of the sixteen points of the step. -/
theorem stepAt_eq (hfin : Finite (argsOf m c)) (t : Fin cfg0.N) (o : Fin 128) :
    stepAt m c t o = ∑ i : Fin 16, rep (argsOf m c) (setOf t) ⟨grpOf t * 16 + i, by have := (grpOf t).isLt; omega⟩ o := by
  obtain ⟨⟨e2, e3, e4, e5, e6⟩, e7, e8, e9, e10, e11⟩ := idxw t
  refine Enc.stepSum_eq _ _ _ _ _ _ _ _ _ _ _ _ (argsOf m c) (setOf t) (grpOf t) (hfin.1 _) hfin.2
    (fun i q => ?_) (fun i => ?_) (fun i q => ?_) (fun o k => ?_) (fun o k => ?_) (fun o => ?_) (fun k o => ?_) (fun o => ?_)
    (fun k o => ?_) (fun o => ?_) (fun k o => ?_) (fun o => ?_) o
  all_goals blk_simp [Enc.iblk]
  · refine (congrArg (Ve0 m c main_v4) ?_).trans (ey_apply m c (setOf t) ⟨grpOf t * 16 + i, by have := (grpOf t).isLt; omega⟩ q)
    unfold setOf grpOf
    blk_ext [idx0 t]
  · refine (congrArg (Ve0 m c main_v5) ?_).trans (ex_apply m c (setOf t) (grpOf t) i)
    unfold setOf grpOf
    blk_ext [idx1 t]
  · refine (congrArg (Ve0 m c main_v9) ?_).trans (em_apply m c q)
    blk_ext [e2]
  · exact (congrArg (Ve0 m c main_v13) (by blk_ext [e3])).trans (ew1y_apply m c o k)
  · exact (congrArg (Ve0 m c main_v17) (by blk_ext [e4])).trans (ew1x_apply m c o k)
  · exact (congrArg (Ve0 m c main_v18) (by blk_ext [e5])).trans (eb1_apply m c o)
  · exact (congrArg (Ve0 m c main_v21) (by blk_ext [e6])).trans (ew2_apply m c k o)
  · exact (congrArg (Ve0 m c main_v22) (by blk_ext [e7])).trans (eb2_apply m c o)
  · exact (congrArg (Ve0 m c main_v25) (by blk_ext [e8])).trans (ewe1_apply m c k o)
  · exact (congrArg (Ve0 m c main_v23) (by blk_ext [e9])).trans (ebe1_apply m c o)
  · exact (congrArg (Ve0 m c main_v26) (by blk_ext [e10])).trans (ewe2_apply m c k o)
  · exact (congrArg (Ve0 m c main_v24) (by blk_ext [e11])).trans (ebe2_apply m c o)

end Cert.KernelIdeal.Entry
end
-- ==== Proof.KernelIdeal.EncOut.lean ====
/-
The array the encoder's call leaves: for every set the sum of its 64 points' representations.
-/
module

public import proofs.«01_k».proof.Proof.KernelIdeal.EncArr

@[expose] public section

set_option maxRecDepth 16384

noncomputable section

namespace Cert.KernelIdeal.Entry

open Cert.KernelIdeal Cert.KernelIdeal.Gen Cert.KernelIdeal.Launch Cert.Spec
open Idealize.ShloMosaic Idealize.ShloMosaic.TcCoe

variable (m : (ℓ : Loc nD τ sig) → Buf (Elt Ideal) ℓ) (c : Dev nD)

/-- What the call leaves: every set's sum of its 64 representations. -/
def repSum : Arr ⟨3, ![16, 1, 128]⟩ := fun j => ∑ n, rep (argsOf m c) (j 0) n (j 2)

/-- A set's first step leaves what it adds. -/
theorem outs_first (t : Fin cfg0.N) (h : t.val % 4 = 0) (o : Fin 128) :
    Enc.outsAt0 (Ve0 m) c t.val t.isLt (ix3 0 0 o) = 0 + stepAt m c t o := by
  rw [zero_add]
  have h1 := Enc.outsAt0_A (Ve0 m) c t h (by omega)
  rw [Enc.out0_A_12_eq] at h1
  exact (congrFun h1 _).trans (Enc.first_apply _ _ _ _ _ _ _ _ _ _ _ _ o)

/-- A later step adds to what the point before left. -/
theorem outs_later (t : Fin cfg0.N) (h : ¬t.val % 4 = 0) (o : Fin 128) :
    Enc.outsAt0 (Ve0 m) c t.val t.isLt (ix3 0 0 o)
      = Enc.outsAt0 (Ve0 m) c (t.val - 1) (Nat.lt_of_le_of_lt (Nat.sub_le _ _) t.isLt) (ix3 0 0 o) + stepAt m c t o := by
  have h1 := Enc.outsAt0_B (Ve0 m) c t h (by omega)
  rw [Enc.out0_B_12_eq] at h1
  exact (congrFun h1 _).trans (Enc.later_apply _ _ _ _ _ _ _ _ _ _ _ _ _ o)

/-- The block a set's last point leaves: the set's four steps. -/
theorem last_block (t : Fin cfg0.N) (hr : t.val % 4 = 4 - 1) (o : Fin 128) :
    Enc.outsAt0 (Ve0 m) c t.val t.isLt (ix3 0 0 o)
      = ∑ g : Fin 4, stepAt m c ⟨4 * (t.val / 4) + g, Pipeline.run_point_lt_of_flush t hr g⟩ o := by
  have h := Pipeline.eq_sum_fin_of_reset_step_apply_of_flush
    (fun n h => fun o : Fin 128 => (Enc.outsAt0 (Ve0 m) c n h (ix3 0 0 o) : EReal)) 4 (fun _ => 0)
    (fun t o => stepAt m c t o) (fun t h o => outs_first m c t h o) (fun t h o => outs_later m c t h o) t hr o
  exact h.trans (zero_add _)

theorem last_rep (hfin : Finite (argsOf m c)) (t : Fin cfg0.N) (hr : t.val % 4 = 4 - 1) (o : Fin 128) :
    Enc.outsAt0 (Ve0 m) c t.val t.isLt (ix3 0 0 o) = ∑ n, rep (argsOf m c) (setOf t) n o := by
  rw [last_block m c t hr o, Fin.sum_univ_tiles 4 16 rfl]
  refine Finset.sum_congr rfl fun g _ => ?_
  rw [stepAt_eq m c hfin]
  have es : ∀ h, setOf ⟨4 * (t.val / 4) + g.val, h⟩ = setOf t := fun h => Fin.ext (by
    show (4 * (t.val / 4) + g.val) / 4 = t.val / 4; omega)
  have eg : ∀ h, (grpOf ⟨4 * (t.val / 4) + g.val, h⟩).val = g.val := fun h => by
    show (4 * (t.val / 4) + g.val) % 4 = g.val; omega
  refine Finset.sum_congr rfl fun i _ => ?_
  rw [es]
  exact congrArg (fun n => rep (argsOf m c) (setOf t) n o) (Fin.ext (by show _ * 16 + i.val = _; rw [eg]))

theorem enc_arr (hfin : Finite (argsOf m c)) : (Enc.dat (Ve0 m) c).arrAt 12 cfg0.N = repSum m c := by
  refine (Enc.dat (Ve0 m) c).arrAt_eq_of_covers 12 _ (by decide +kernel) fun t hf y => ?_
  blk_simp
  have hr : t.val % 4 = 4 - 1 := (flush0_12 t).mp hf
  rw [Enc.after0_12]
  idx_vars y
  obtain rfl : y0 = 0 := Subsingleton.elim _ _
  obtain rfl : y1 = 0 := Subsingleton.elim _ _
  refine (last_rep m c hfin t hr y2).trans ?_
  have e : ((View.whole main_v27).slice (win0_12.rect t)).emb (ix3 0 0 y2) = (ix3 (setOf t) 0 y2 : (⟨3, ![16, 1, 128]⟩ : Shape).Idx) := by
    unfold setOf
    blk_ext [idx12 t]
  exact (congrArg (repSum m c) e).symm

end Cert.KernelIdeal.Entry
end
-- ==== Proof.KernelIdeal.DecVal.lean ====
/-
One point of the decoder's call, entry by entry: from a set's sum of representations, its draw and the target positions
the body computes the mathematics' four results.
-/
module

public import proofs.«01_k».proof.Proof.KernelIdeal.DecRun
public import proofs.«01_k».proof.Proof.Spec
public import Idealize.ShloMosaic.Lib.Pointwise

@[expose] public section

set_option maxRecDepth 16384

noncomputable section

namespace Cert.KernelIdeal.Dec

open Cert.KernelIdeal Cert.KernelIdeal.Gen Cert.Spec
open Idealize.ShloMosaic Idealize.ShloMosaic.TcCoe

/-- The constant the sum of 64 representations is multiplied by. -/
theorem sixtyfourth : Ideal.ofBits .f32 0x3C800000#32 = ((1 / 64 : ℝ) : EReal) := by
  simp [Ideal.ofBits, Ideal.ieee, -EReal.coe_mul]
  norm_num

variable (x0 : Vec Ideal S1x1x128 .f32) (x1 : Vec Ideal S1x1x64 .f32) (x2 : Vec Ideal S1x128x1 .f32)
  (x3 : Vec Ideal S128x128 .bf16) (x4 : Vec Ideal S1x128 .f32) (x5 : Vec Ideal S128x64 .bf16) (x6 : Vec Ideal S1x64 .f32)
  (x7 : Vec Ideal S128x64 .bf16) (x8 : Vec Ideal S1x64 .f32) (x9 : Vec Ideal S1x128 .bf16) (x10 : Vec Ideal S64x128 .bf16)
  (x11 : Vec Ideal S1x128 .f32) (x12 : Vec Ideal S128x128 .bf16) (x13 : Vec Ideal S1x128 .f32)
  (x14 : Vec Ideal S128x2500 .bf16) (x15 : Vec Ideal S1x2500 .f32) (x16 : Vec Ideal S128x2500 .bf16)
  (x17 : Vec Ideal S1x2500 .f32) (a : Args) (s : Fin 16)

/-- The blocks a point of the decoder's call is given for set `s`. -/
structure Given : Prop where
  h0 : ∀ o, x0 (ix3 0 0 o) = ∑ n, rep a s n o
  h1 : ∀ o, x1 (ix3 0 0 o) = a.eps (ix2 s o)
  h2 : ∀ t, x2 (ix3 0 t 0) = a.xt (ix3 s t 0)
  h3 : ∀ k o, x3 (ix2 k o) = a.wh (ix2 k o)
  h4 : ∀ o, x4 (ix2 0 o) = a.bh (ix1 o)
  h5 : ∀ k o, x5 (ix2 k o) = a.wmu (ix2 k o)
  h6 : ∀ o, x6 (ix2 0 o) = a.bmu (ix1 o)
  h7 : ∀ k o, x7 (ix2 k o) = a.wsig (ix2 k o)
  h8 : ∀ o, x8 (ix2 0 o) = a.bsig (ix1 o)
  h9 : ∀ o, x9 (ix2 0 o) = a.wd1 (ix2 0 o)
  h10 : ∀ (k : Fin 64) o, x10 (ix2 k o) = a.wd1 (ix2 ⟨1 + k, by omega⟩ o)
  h11 : ∀ o, x11 (ix2 0 o) = a.bd1 (ix1 o)
  h12 : ∀ k o, x12 (ix2 k o) = a.wd2 (ix2 k o)
  h13 : ∀ o, x13 (ix2 0 o) = a.bd2 (ix1 o)
  h14 : ∀ k o, x14 (ix2 k o) = a.wdmu (ix2 k o)
  h15 : ∀ o, x15 (ix2 0 o) = a.bdmu (ix1 o)
  h16 : ∀ k o, x16 (ix2 k o) = a.wdsig (ix2 k o)
  h17 : ∀ o, x17 (ix2 0 o) = a.bdsig (ix1 o)

variable {x0 x1 x2 x3 x4 x5 x6 x7 x8 x9 x10 x11 x12 x13 x14 x15 x16 x17 a s}
variable (G : Given x0 x1 x2 x3 x4 x5 x6 x7 x8 x9 x10 x11 x12 x13 x14 x15 x16 x17 a s)

include G

/-- The mean row. -/
theorem muRow_apply (o : Fin 64) : muRow x0 x3 x4 x5 x6 (ix2 0 o) = mu a s o := by
  pointwise [muRow, k1_pay6, k1_pay5]
  simp only [G.h0, G.h3, G.h4, G.h5, G.h6, sixtyfourth]
  rfl

/-- The deviation row. -/
theorem sgRow_apply (o : Fin 64) : sgRow x0 x3 x4 x7 x8 (ix2 0 o) = sigma a s o := by
  pointwise [sgRow, k1_pay7, k1_pay5]
  simp only [G.h0, G.h3, G.h4, G.h7, G.h8, sixtyfourth]
  rfl

/-- The latent's sample. -/
theorem zed_apply (o : Fin 64) : muRow x0 x3 x4 x5 x6 (ix2 0 o) + zRow x0 x1 x3 x4 x7 x8 (ix2 0 o) = zed a s o := by
  have h : zRow x0 x1 x3 x4 x7 x8 (ix2 0 o) = sgRow x0 x3 x4 x7 x8 (ix2 0 o) * x1 (ix3 0 0 o) := by
    pointwise [zRow, sgRow, k1_pay8]
  rw [h, muRow_apply G, sgRow_apply G, G.h1]
  rfl

/-- The first layer's sum: the position's product and the sample's. -/
theorem dense_xz (t o : Fin 128) :
    (a.xt (ix3 s t 0) * a.wd1 (ix2 0 o) + ∑ k : Fin 64, zed a s k * a.wd1 (ix2 ⟨1 + k, by omega⟩ o)) + a.bd1 (ix1 o)
      = dense (xz a s t) (fun k => a.wd1 (ix2 k o)) (a.bd1 (ix1 o)) := by
  unfold dense
  rw [Fin.sum_univ_two_halves 1 64 rfl, Fin.sum_univ_one]
  congr 2

/-- The second layer. -/
theorem hid_apply (t o : Fin 128) :
    k1_pay9 (muRow x0 x3 x4 x5 x6) (zRow x0 x1 x3 x4 x7 x8) x2 x9 x10 x11 x12 x13 (ix2 t o) = dec2 a s t o := by
  have hz := zed_apply G
  generalize muRow x0 x3 x4 x5 x6 = M at hz ⊢
  generalize zRow x0 x1 x3 x4 x7 x8 = Z at hz ⊢
  pointwise [k1_pay9]
  simp only [hz, Fin.sum_univ_one, G.h2, G.h9, G.h10, G.h11, G.h12, G.h13, dense_xz G]
  rfl

/-- The first result's block. -/
theorem yOut_apply (t : Fin 128) (o : Fin 2500) :
    yOut x0 x1 x2 x3 x4 x5 x6 x7 x8 x9 x10 x11 x12 x13 x14 x15 (ix3 0 t o) = ymu a s t o := by
  have hh := hid_apply G
  unfold yOut
  generalize muRow x0 x3 x4 x5 x6 = M at hh ⊢
  generalize zRow x0 x1 x3 x4 x7 x8 = Z at hh ⊢
  pointwise [k1_pay1, k1_pay10]
  simp only [hh, G.h14, G.h15]
  rfl

/-- The second result's block. -/
theorem vOut_apply (t : Fin 128) (o : Fin 2500) :
    vOut x0 x1 x2 x3 x4 x5 x6 x7 x8 x9 x10 x11 x12 x13 x16 x17 (ix3 0 t o) = ysig a s t o := by
  have hh : ∀ t k, hid x0 x1 x2 x3 x4 x5 x6 x7 x8 x9 x10 x11 x12 x13 (ix2 t k) = dec2 a s t k := hid_apply G
  unfold vOut
  generalize hid x0 x1 x2 x3 x4 x5 x6 x7 x8 x9 x10 x11 x12 x13 = H at hh ⊢
  pointwise [k1_pay2]
  simp only [hh, G.h16, G.h17, zero_sub]
  rfl

/-- The third result's block. -/
theorem muOut_apply (o : Fin 64) : muOut x0 x3 x4 x5 x6 (ix3 0 0 o) = mu a s o := by
  rw [← muRow_apply G]
  unfold muOut
  generalize muRow x0 x3 x4 x5 x6 = M
  pointwise [k1_pay3]

/-- The fourth result's block. -/
theorem sgOut_apply (o : Fin 64) : sgOut x0 x3 x4 x7 x8 (ix3 0 0 o) = sigma a s o := by
  rw [← sgRow_apply G]
  unfold sgOut
  generalize sgRow x0 x3 x4 x7 x8 = M
  pointwise [k1_pay4]

end Cert.KernelIdeal.Dec
end
-- ==== Proof.KernelIdeal.DecArr.lean ====
/-
What each grid point of the decoder's call is given, and the four arrays the call leaves: the mathematics' four results.
-/
module

public import proofs.«01_k».proof.Proof.KernelIdeal.EncOut
public import proofs.«01_k».proof.Proof.KernelIdeal.DecVal

@[expose] public section

set_option maxRecDepth 16384

noncomputable section

namespace Cert.KernelIdeal.Entry

open Cert.KernelIdeal Cert.KernelIdeal.Gen Cert.KernelIdeal.Launch Cert.Spec
open Idealize.ShloMosaic Idealize.ShloMosaic.TcCoe

variable (m : (ℓ : Loc nD τ sig) → Buf (Elt Ideal) ℓ) (c : Dev nD)

/-- The decoder's call finds the encoder's sums. -/
theorem Ve1_sum (hfin : Finite (argsOf m c)) : Ve1 m c main_v27 = repSum m c := by
  refine (V11_of m (outsA m) c main_v27 (by decide)).trans ?_
  unfold V10
  rw [Function.update_self]
  unfold outsA encV
  rw [Function.update_self]
  exact enc_arr m c hfin

/-- The set a grid point of the decoder's call works on. -/
def setAt (t : Fin cfg1.N) : Fin 16 := ⟨t.val, lt_of_lt_of_eq t.isLt N_1⟩

/-- The windows that move with the set. -/
theorem idxs : ∀ t : Fin cfg1.N, (win1_0.index t = ![t.val, 0, 0] ∧ win1_1.index t = ![t.val, 0, 0] ∧ win1_2.index t = ![t.val, 0, 0])
    ∧ win1_18.index t = ![t.val, 0, 0] ∧ win1_19.index t = ![t.val, 0, 0] ∧ win1_20.index t = ![t.val, 0, 0]
    ∧ win1_21.index t = ![t.val, 0, 0] := (by decide +kernel : ∀ t : Fin grid1.N, _)

/-- The windows that stay at the array's start. -/
theorem idxd : ∀ t : Fin cfg1.N, (win1_3.index t = ![0, 0] ∧ win1_4.index t = ![0, 0] ∧ win1_5.index t = ![0, 0]
    ∧ win1_6.index t = ![0, 0] ∧ win1_7.index t = ![0, 0]) ∧ (win1_8.index t = ![0, 0] ∧ win1_9.index t = ![0, 0]
    ∧ win1_10.index t = ![0, 0] ∧ win1_11.index t = ![0, 0] ∧ win1_12.index t = ![0, 0]) ∧ win1_13.index t = ![0, 0]
    ∧ win1_14.index t = ![0, 0] ∧ win1_15.index t = ![0, 0] ∧ win1_16.index t = ![0, 0] ∧ win1_17.index t = ![0, 0] :=
  (by decide +kernel : ∀ t : Fin grid1.N, _)

set_option maxHeartbeats 4000000 in
/-- The blocks a point is given. -/
theorem given (hfin : Finite (argsOf m c)) (t : Fin cfg1.N) :
    Dec.Given (Dec.iblk (Ve1 m) c 0 t) (Dec.iblk (Ve1 m) c 1 t) (Dec.iblk (Ve1 m) c 2 t) (Dec.iblk (Ve1 m) c 3 t)
      (Dec.iblk (Ve1 m) c 4 t) (Dec.iblk (Ve1 m) c 5 t) (Dec.iblk (Ve1 m) c 6 t) (Dec.iblk (Ve1 m) c 7 t)
      (Dec.iblk (Ve1 m) c 8 t) (Dec.iblk (Ve1 m) c 9 t) (Dec.iblk (Ve1 m) c 10 t) (Dec.iblk (Ve1 m) c 11 t)
      (Dec.iblk (Ve1 m) c 12 t) (Dec.iblk (Ve1 m) c 13 t) (Dec.iblk (Ve1 m) c 14 t) (Dec.iblk (Ve1 m) c 15 t)
      (Dec.iblk (Ve1 m) c 16 t) (Dec.iblk (Ve1 m) c 17 t) (argsOf m c) (setAt t) := by
  obtain ⟨⟨e0, e1, e2⟩, -⟩ := idxs t
  obtain ⟨⟨e3, e4, e5, e6, e7⟩, ⟨e8, e9, e10, e11, e12⟩, e13, e14, e15, e16, e17⟩ := idxd t
  refine ⟨fun o => ?_, fun o => ?_, fun q => ?_, fun k o => ?_, fun o => ?_, fun k o => ?_, fun o => ?_, fun k o => ?_,
    fun o => ?_, fun o => ?_, fun k o => ?_, fun o => ?_, fun k o => ?_, fun o => ?_, fun k o => ?_, fun o => ?_,
    fun k o => ?_, fun o => ?_⟩
  all_goals blk_simp [Dec.iblk]
  · refine (congrFun (Ve1_sum m c hfin) _).trans ?_
    refine (congrArg (repSum m c) (?_ : _ = (ix3 (setAt t) 0 o : (⟨3, ![16, 1, 128]⟩ : Shape).Idx))).trans rfl
    unfold setAt
    blk_ext [e0]
  · refine (congrArg (Ve1 m c main_v28) ?_).trans (deps_apply m c (setAt t) o)
    unfold setAt
    blk_ext [e1]
  · refine (congrArg (Ve1 m c main_arg2) ?_).trans (dxt_apply m c (setAt t) q)
    unfold setAt
    blk_ext [e2]
  · exact (congrArg (Ve1 m c main_v29) (by blk_ext [e3])).trans (dhw_apply m c k o)
  · exact (congrArg (Ve1 m c main_v30) (by blk_ext [e4])).trans (dhb_apply m c o)
  · exact (congrArg (Ve1 m c main_v31) (by blk_ext [e5])).trans (dmuw_apply m c k o)
  · exact (congrArg (Ve1 m c main_v32) (by blk_ext [e6])).trans (dmub_apply m c o)
  · exact (congrArg (Ve1 m c main_v33) (by blk_ext [e7])).trans (dsgw_apply m c k o)
  · exact (congrArg (Ve1 m c main_v34) (by blk_ext [e8])).trans (dsgb_apply m c o)
  · exact (congrArg (Ve1 m c main_v36) (by blk_ext [e9])).trans (d1x_apply m c o)
  · exact (congrArg (Ve1 m c main_v38) (by blk_ext [e10])).trans (d1z_apply m c k o)
  · exact (congrArg (Ve1 m c main_v39) (by blk_ext [e11])).trans (d1b_apply m c o)
  · exact (congrArg (Ve1 m c main_v40) (by blk_ext [e12])).trans (d2w_apply m c k o)
  · exact (congrArg (Ve1 m c main_v41) (by blk_ext [e13])).trans (d2b_apply m c o)
  · exact (congrArg (Ve1 m c main_v42) (by blk_ext [e14])).trans (dymw_apply m c k o)
  · exact (congrArg (Ve1 m c main_v43) (by blk_ext [e15])).trans (dymb_apply m c o)
  · exact (congrArg (Ve1 m c main_v44) (by blk_ext [e16])).trans (dysw_apply m c k o)
  · exact (congrArg (Ve1 m c main_v45) (by blk_ext [e17])).trans (dysb_apply m c o)

end Cert.KernelIdeal.Entry
end
-- ==== Proof.Results.lean ====
/-
The problem's four results, as whole arrays.
-/
module

public import proofs.«01_k».proof.Proof.Spec

@[expose] public section

noncomputable section

namespace Cert.Spec

open Idealize.ShloMosaic

/-- The predicted pictures. -/
def yRes (a : Args) : Arr ⟨3, ![16, 128, 2500]⟩ := fun j => ymu a (j 0) (j 1) (j 2)
/-- The predicted pictures' deviations. -/
def vRes (a : Args) : Arr ⟨3, ![16, 128, 2500]⟩ := fun j => ysig a (j 0) (j 1) (j 2)
/-- The latents' means. -/
def muRes (a : Args) : Arr ⟨2, ![16, 64]⟩ := fun j => mu a (j 0) (j 1)
/-- The latents' deviations. -/
def sgRes (a : Args) : Arr ⟨2, ![16, 64]⟩ := fun j => sigma a (j 0) (j 1)

end Cert.Spec
end
-- ==== Proof.KernelIdeal.DecOut.lean ====
/-
The kernel's four results, as the mathematics names them.
-/
module

public import proofs.«01_k».proof.Proof.KernelIdeal.DecArr
public import proofs.«01_k».proof.Proof.Results

@[expose] public section

set_option maxRecDepth 16384

noncomputable section

namespace Cert.KernelIdeal.Entry

open Cert.KernelIdeal Cert.KernelIdeal.Gen Cert.KernelIdeal.Launch Cert.Spec
open Idealize.ShloMosaic Idealize.ShloMosaic.TcCoe

variable (m : (ℓ : Loc nD τ sig) → Buf (Elt Ideal) ℓ) (c : Dev nD)

/-- The latents' means, as the call leaves them. -/
def muRow3 (a : Args) : Arr ⟨3, ![16, 1, 64]⟩ := fun j => mu a (j 0) (j 2)
/-- The latents' deviations, as the call leaves them. -/
def sgRow3 (a : Args) : Arr ⟨3, ![16, 1, 64]⟩ := fun j => sigma a (j 0) (j 2)

variable (hfin : Finite (argsOf m c))
include hfin

theorem y_arr : (decDat m c).arrAt 18 cfg1.N = yRes (argsOf m c) := by
  refine (Dec.dat (Ve1 m) c).arrAt_eq_of_covers 18 _ (by decide +kernel) fun t hf y => ?_
  blk_simp
  rw [Dec.after1_18]
  idx_vars y
  obtain rfl : y0 = 0 := Subsingleton.elim _ _
  refine (Dec.yOut_apply (given m c hfin t) y1 y2).trans ?_
  have e : ((View.whole main_v46_0).slice (win1_18.rect t)).emb (ix3 0 y1 y2)
      = (ix3 (setAt t) y1 y2 : (⟨3, ![16, 128, 2500]⟩ : Shape).Idx) := by
    unfold setAt
    blk_ext [(idxs t).2.1]
  exact (congrArg (yRes (argsOf m c)) e).symm

theorem v_arr : (decDat m c).arrAt 19 cfg1.N = vRes (argsOf m c) := by
  refine (Dec.dat (Ve1 m) c).arrAt_eq_of_covers 19 _ (by decide +kernel) fun t hf y => ?_
  blk_simp
  rw [Dec.after1_19]
  idx_vars y
  obtain rfl : y0 = 0 := Subsingleton.elim _ _
  refine (Dec.vOut_apply (given m c hfin t) y1 y2).trans ?_
  have e : ((View.whole main_v46_1).slice (win1_19.rect t)).emb (ix3 0 y1 y2)
      = (ix3 (setAt t) y1 y2 : (⟨3, ![16, 128, 2500]⟩ : Shape).Idx) := by
    unfold setAt
    blk_ext [(idxs t).2.2.1]
  exact (congrArg (vRes (argsOf m c)) e).symm

theorem mu_arr : (decDat m c).arrAt 20 cfg1.N = muRow3 (argsOf m c) := by
  refine (Dec.dat (Ve1 m) c).arrAt_eq_of_covers 20 _ (by decide +kernel) fun t hf y => ?_
  blk_simp
  rw [Dec.after1_20]
  idx_vars y
  obtain rfl : y0 = 0 := Subsingleton.elim _ _
  obtain rfl : y1 = 0 := Subsingleton.elim _ _
  refine (Dec.muOut_apply (given m c hfin t) y2).trans ?_
  have e : ((View.whole main_v46_2).slice (win1_20.rect t)).emb (ix3 0 0 y2)
      = (ix3 (setAt t) 0 y2 : (⟨3, ![16, 1, 64]⟩ : Shape).Idx) := by
    unfold setAt
    blk_ext [(idxs t).2.2.2.1]
  exact (congrArg (muRow3 (argsOf m c)) e).symm

theorem sg_arr : (decDat m c).arrAt 21 cfg1.N = sgRow3 (argsOf m c) := by
  refine (Dec.dat (Ve1 m) c).arrAt_eq_of_covers 21 _ (by decide +kernel) fun t hf y => ?_
  blk_simp
  rw [Dec.after1_21]
  idx_vars y
  obtain rfl : y0 = 0 := Subsingleton.elim _ _
  obtain rfl : y1 = 0 := Subsingleton.elim _ _
  refine (Dec.sgOut_apply (given m c hfin t) y2).trans ?_
  have e : ((View.whole main_v46_3).slice (win1_21.rect t)).emb (ix3 0 0 y2)
      = (ix3 (setAt t) 0 y2 : (⟨3, ![16, 1, 64]⟩ : Shape).Idx) := by
    unfold setAt
    blk_ext [(idxs t).2.2.2.2]
  exact (congrArg (sgRow3 (argsOf m c)) e).symm

/-! ## At the end of the program -/

theorem end_y : V13 m (outs m) c (Proc.devRef .tc main_v46_0) = yRes (argsOf m c) :=
  (V13_of m (outs m) c main_v46_0 (by decide)).trans ((V12_y m c).trans (y_arr m c hfin))

theorem end_v : V13 m (outs m) c (Proc.devRef .tc main_v46_1) = vRes (argsOf m c) :=
  (V13_of m (outs m) c main_v46_1 (by decide)).trans ((V12_var m c).trans (v_arr m c hfin))

theorem end_mu : V13 m (outs m) c (Proc.devRef .tc main_v47) = muRes (argsOf m c) := by
  have h : V12 m (outs m) c (Proc.devRef .tc main_v46_2) = muRow3 (argsOf m c) := (V12_mu m c).trans (mu_arr m c hfin)
  generalize argsOf m c = a at *
  dsimp only [V13]
  funext j
  revert j
  show ∀ j : (⟨2, ![16, 64]⟩ : Shape).Idx, _
  intro j
  idx_vars j
  entry_read
  rw [h]
  pointwise
  rfl

theorem end_sg : V13 m (outs m) c (Proc.devRef .tc main_v48) = sgRes (argsOf m c) := by
  have h : V12 m (outs m) c (Proc.devRef .tc main_v46_3) = sgRow3 (argsOf m c) := (V12_sigma m c).trans (sg_arr m c hfin)
  generalize argsOf m c = a at *
  dsimp only [V13]
  funext j
  revert j
  show ∀ j : (⟨2, ![16, 64]⟩ : Shape).Idx, _
  intro j
  idx_vars j
  entry_read
  rw [h]
  pointwise
  rfl

end Cert.KernelIdeal.Entry
end
-- ==== Proof.Precondition.lean ====
/-
What the precondition says: every context position is a real number, and so is every weight the first
convolution gives to it.
-/
module

public import proofs.«01_k».proof.Defs
public import proofs.«01_k».proof.Proof.KernelIdeal.DecOut

@[expose] public section

set_option maxRecDepth 16384

noncomputable section

namespace Cert.Precondition

open Cert.Spec Cert.KernelIdeal.Entry
open Idealize.ShloMosaic

/-- The side conditions the precondition states. -/
theorem facts : Cert.Pre_finite_x_and_w1.Facts := ⟨by decide, by decide, by decide, by decide⟩

/-- A value whose absolute value compares below infinity is a real number. -/
theorem real_of_olt {v : EReal}
    (h : FloatOps.cmpf (F := Ideal) (φ := .f32) .olt (FloatOps.absf (F := Ideal) (φ := .f32) v)
      (FloatOps.ofBits (F := Ideal) .f32 0x7F800000#32) = 1#1) : Cert.KernelIdeal.Enc.Fin' v := by
  have ht : FloatOps.ofBits (F := Ideal) .f32 0x7F800000#32 = (⊤ : EReal) := by
    show Ideal.ofBits .f32 0x7F800000#32 = ⊤
    simp [Ideal.ofBits, Ideal.ieee]
  rw [ht] at h
  induction v with
  | bot => exact absurd h (by simp [FloatOps.cmpf, FloatOps.absf, Ideal.cmp])
  | coe r => exact ⟨r, rfl⟩
  | top => exact absurd h (by simp [FloatOps.cmpf, FloatOps.absf, Ideal.cmp])

local instance : Cert.Pre_finite_x_and_w1.Facts := facts

/-- The precondition makes the context positions and their weights real numbers. -/
theorem finite {m : (ℓ : Loc Cert.KernelIdeal.nD Cert.KernelIdeal.τ Cert.KernelIdeal.sig) → Buf (Elt Ideal) ℓ}
    (h : Pre_KernelIdeal_finite_x_and_w1 m) (c : Dev Cert.KernelIdeal.nD) : Finite (argsOf m c) := by
  obtain ⟨h0, h1⟩ := h c
  constructor
  · intro s n
    have e := congrFun h0 (ix3 s n 0)
    dsimp only [Cert.Pre_finite_x_and_w1.fn] at e
    refine real_of_olt (Eq.trans ?_ e)
    pointwise
    rfl
  · intro o i j
    have e := congrFun h1 (ix3 o i j)
    dsimp only [Cert.Pre_finite_x_and_w1.fn] at e
    refine real_of_olt (Eq.trans ?_ e)
    pointwise
    rfl

end Cert.Precondition
end
-- ==== Proof.RefEncoder.lean ====
/-
What the reference's arrays hold, entry by entry: the problem's mathematics (`Cert.Spec`). First its encoder.
-/
module

public import proofs.«01_k».proof.Proof.Gen.ReferenceIdeal.Read
public import proofs.«01_k».proof.Proof.Spec
public import Idealize.ShloMosaic.Lib.IdealHost

@[expose] public section

set_option maxRecDepth 16384

noncomputable section

namespace Cert.ReferenceIdeal.Entry

open Cert.ReferenceIdeal Cert.ReferenceIdeal.Gen Cert.ReferenceIdeal.Read Cert.Spec
open Idealize.ShloMosaic

variable (a : Args)

/-- The set a flat point belongs to. -/
abbrev setOf (m : Fin 1024) : Fin 16 := ⟨m / 64, by omega⟩
/-- Its number in the set. -/
abbrev numOf (m : Fin 1024) : Fin 64 := ⟨m % 64, by omega⟩

/-- The padded pair of pictures. -/
theorem v6_apply (m : Fin 1024) (ch : Fin 2) (i j : Fin 52) :
    val_main_v6 (F := Ideal) a.x a.y (ix4 m ch i j) = pad50 (chan a (setOf m) (numOf m) ch) i j := by
  have hz : FloatOps.sitofp (F := Ideal) FTy.f32 (0#32) = (0 : EReal) := by
    show (((0#32 : BitVec 32).toInt : ℝ) : EReal) = 0
    simp
  pointwise [val_main_v6, val_main_v5, val_main_v4, val_main_v3, val_main_v2, val_main_v1, val_main_v0,
    val_main_call0_v0, val_main_c]
  unfold pad50
  split
  · match ch with
    | ⟨0, _⟩ => rfl
    | ⟨1, _⟩ => rfl
  · exact hz

/-- The first convolution. -/
theorem v63_apply (m : Fin 1024) (o : Fin 32) (r c : Fin 50) :
    val_main_v63 (F := Ideal) a.x a.y a.w1 a.b1 (ix4 m o r c) = conv1 a (setOf m) (numOf m) o r c := by
  pointwise [val_main_v63, val_main_v62, val_main_v61, val_main_v60, val_main_call1_v0, val_main_call1_cst,
    val_main_v59, val_main_v58, val_main_v57, val_main_v56, val_main_v55, val_main_v54, val_main_v53, val_main_v52,
    val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7]
  simp only [v6_apply]
  exact (conv_nine (chan a (setOf m) (numOf m)) (fun ch i j => a.w1 (ix4 o ch i j)) (a.b1 (ix1 o)) r c).symm

/-- Its padded pictures. -/
theorem v64_apply (m : Fin 1024) (ch : Fin 32) (i j : Fin 52) :
    val_main_v64 (F := Ideal) a.x a.y a.w1 a.b1 (ix4 m ch i j) = pad50 (conv1 a (setOf m) (numOf m) ch) i j := by
  have hz : FloatOps.sitofp (F := Ideal) FTy.f32 (0#32) = (0 : EReal) := by
    show (((0#32 : BitVec 32).toInt : ℝ) : EReal) = 0
    simp
  pointwise [val_main_v64, val_main_call2_v0, val_main_c_0]
  unfold pad50
  split
  · exact v63_apply a m ch _ _
  · exact hz

/-- The second convolution. -/
theorem v121_apply (m : Fin 1024) (o : Fin 32) (r c : Fin 50) :
    val_main_v121 (F := Ideal) a.x a.y a.w1 a.b1 a.w2 a.b2 (ix4 m o r c) = conv2 a (setOf m) (numOf m) o r c := by
  pointwise [val_main_v121, val_main_v120, val_main_v119, val_main_v118, val_main_call3_v0, val_main_call3_cst,
    val_main_v117, val_main_v116, val_main_v115, val_main_v114, val_main_v113, val_main_v112, val_main_v111,
    val_main_v110, val_main_v109, val_main_v108, val_main_v107, val_main_v106, val_main_v105, val_main_v104,
    val_main_v103, val_main_v102, val_main_v101, val_main_v100, val_main_v99, val_main_v98, val_main_v97,
    val_main_v96, val_main_v95, val_main_v94, val_main_v93, val_main_v92, val_main_v91, val_main_v90, val_main_v89,
    val_main_v88, val_main_v87, val_main_v86, val_main_v85, val_main_v84, val_main_v83, val_main_v82, val_main_v81,
    val_main_v80, val_main_v79, val_main_v78, val_main_v77, val_main_v76, val_main_v75, val_main_v74, val_main_v73,
    val_main_v72, val_main_v71, val_main_v70, val_main_v69, val_main_v68, val_main_v67, val_main_v66, val_main_v65]
  simp only [v64_apply]
  exact (conv_nine (conv1 a (setOf m) (numOf m)) (fun ch i j => a.w2 (ix4 o ch i j)) (a.b2 (ix1 o)) r c).symm

/-- The mean of its pictures. -/
theorem v124_apply (m : Fin 1024) (o : Fin 32) :
    val_main_v124 (F := Ideal) a.x a.y a.w1 a.b1 a.w2 a.b2 (ix2 m o) = pooled a (setOf m) (numOf m) o := by
  have h : Ideal.ofBits .f32 0x451C4000#32 = ((2500 : ℝ) : EReal) := by
    simp [Ideal.ofBits, Ideal.ieee, -EReal.coe_mul]; norm_num
  pointwise [val_main_v124, val_main_v122, val_main_v123, val_main_cst, val_main_cst_1]
  simp only [v121_apply]
  rw [h, Ideal.div_coe (by norm_num)]
  rfl

/-- A point's features. -/
theorem v125_apply (m : Fin 1024) (k : Fin 33) :
    val_main_v125 (F := Ideal) a.x a.y a.w1 a.b1 a.w2 a.b2 (ix2 m k) = feat a (setOf m) (numOf m) k := by
  pointwise [val_main_v125, val_main_v0]
  unfold feat
  split
  · exact v124_apply a m _
  · rfl

/-- A point's hidden layer. -/
theorem v130_apply (m : Fin 1024) (o : Fin 128) :
    val_main_v130 (F := Ideal) a.x a.y a.w1 a.b1 a.w2 a.b2 a.we1 a.be1 (ix2 m o) = hid a (setOf m) (numOf m) o := by
  pointwise [val_main_v130, val_main_v129, val_main_v128, val_main_v127, val_main_v126, val_main_call4_v0, val_main_call4_cst]
  simp only [v125_apply]
  rfl

/-- A point's representation. -/
theorem v134_apply (m : Fin 1024) (o : Fin 128) :
    val_main_v134 (F := Ideal) a.x a.y a.w1 a.b1 a.w2 a.b2 a.we1 a.be1 a.we2 a.be2 (ix2 m o)
      = rep a (setOf m) (numOf m) o := by
  pointwise [val_main_v134, val_main_v133, val_main_v132, val_main_v131]
  simp only [v130_apply]
  rfl

/-- A set's representation. -/
theorem v138_apply (s : Fin 16) (o : Fin 128) :
    val_main_v138 (F := Ideal) a.x a.y a.w1 a.b1 a.w2 a.b2 a.we1 a.be1 a.we2 a.be2 (ix2 s o) = rmean a s o := by
  have h : Ideal.ofBits .f32 0x42800000#32 = ((64 : ℝ) : EReal) := by
    simp [Ideal.ofBits, Ideal.ieee, -EReal.coe_mul]; norm_num
  pointwise [val_main_v138, val_main_v137, val_main_v136, val_main_v135, val_main_cst_2, val_main_cst_3]
  simp only [v134_apply]
  rw [h, Ideal.div_coe (by norm_num)]
  refine congrArg (· * ((1 / 64 : ℝ) : EReal)) (Finset.sum_congr rfl fun n _ => ?_)
  have h1 : ∀ m : Fin 1024, m.val = s.val * 64 + n.val → setOf m = s := fun m hm => Fin.ext (by simp only [hm]; omega)
  have h2 : ∀ m : Fin 1024, m.val = s.val * 64 + n.val → numOf m = n := fun m hm => Fin.ext (by simp only [hm]; omega)
  rw [h1 _ rfl, h2 _ rfl]

end Cert.ReferenceIdeal.Entry
end
-- ==== Proof.RefDecoder.lean ====
/-
What the reference's arrays hold, entry by entry: the latent and the decoder.
-/
module

public import proofs.«01_k».proof.Proof.RefEncoder

@[expose] public section

set_option maxRecDepth 16384

noncomputable section

namespace Cert.ReferenceIdeal.Entry

open Cert.ReferenceIdeal Cert.ReferenceIdeal.Gen Cert.ReferenceIdeal.Read Cert.Spec
open Idealize.ShloMosaic

variable (a : Args)

/-- The latent's hidden layer. -/
theorem v143_apply (s : Fin 16) (o : Fin 128) :
    val_main_v143 (F := Ideal) a.x a.y a.w1 a.b1 a.w2 a.b2 a.we1 a.be1 a.we2 a.be2 a.wh a.bh (ix2 s o) = hr a s o := by
  pointwise [val_main_v143, val_main_v142, val_main_v141, val_main_v140, val_main_v139, val_main_call5_v0, val_main_call5_cst]
  simp only [v138_apply]
  rfl

/-- The latent's mean. -/
theorem v147_apply (s : Fin 16) (o : Fin 64) :
    val_main_v147 (F := Ideal) a.x a.y a.w1 a.b1 a.w2 a.b2 a.we1 a.be1 a.we2 a.be2 a.wh a.bh a.wmu a.bmu (ix2 s o)
      = mu a s o := by
  pointwise [val_main_v147, val_main_v146, val_main_v145, val_main_v144]
  simp only [v143_apply]
  rfl

/-- The latent's deviation. -/
theorem v161_apply (s : Fin 16) (o : Fin 64) :
    val_main_v161 (F := Ideal) a.x a.y a.w1 a.b1 a.w2 a.b2 a.we1 a.be1 a.we2 a.be2 a.wh a.bh a.wsig a.bsig (ix2 s o)
      = sigma a s o := by
  pointwise [val_main_v161, val_main_v160, val_main_v159, val_main_v158, val_main_v157, val_main_v156, val_main_v155,
    val_main_v154, val_main_v153, val_main_v152, val_main_v151, val_main_v150, val_main_v149, val_main_v148,
    val_main_cst_4, val_main_cst_5, val_main_cst_6, val_main_cst_7]
  simp only [v143_apply]
  rfl

/-- The latent's sample. -/
theorem v163_apply (s : Fin 16) (o : Fin 64) :
    val_main_v163 (F := Ideal) a.x a.y a.eps a.w1 a.b1 a.w2 a.b2 a.we1 a.be1 a.we2 a.be2 a.wh a.bh a.wmu a.bmu
      a.wsig a.bsig (ix2 s o) = zed a s o := by
  pointwise [val_main_v163, val_main_v162]
  rw [v147_apply, v161_apply]
  rfl

/-- The decoder's input. -/
theorem v166_apply (s : Fin 16) (t : Fin 128) (k : Fin 65) :
    val_main_v166 (F := Ideal) a.x a.y a.xt a.eps a.w1 a.b1 a.w2 a.b2 a.we1 a.be1 a.we2 a.be2 a.wh a.bh a.wmu a.bmu
      a.wsig a.bsig (ix3 s t k) = xz a s t k := by
  pointwise [val_main_v166, val_main_v165, val_main_v164]
  unfold xz
  split
  · exact congrArg (fun q => a.xt (ix3 s t q)) (Subsingleton.elim _ _)
  · exact v163_apply a s _

/-- The decoder's first layer. -/
theorem v171_apply (s : Fin 16) (t : Fin 128) (o : Fin 128) :
    val_main_v171 (F := Ideal) a.x a.y a.xt a.eps a.w1 a.b1 a.w2 a.b2 a.we1 a.be1 a.we2 a.be2 a.wh a.bh a.wmu a.bmu
      a.wsig a.bsig a.wd1 a.bd1 (ix3 s t o) = dec1 a s t o := by
  pointwise [val_main_v171, val_main_v170, val_main_v169, val_main_v168, val_main_v167, val_main_call6_v0, val_main_call6_cst]
  simp only [v166_apply]
  rfl

/-- The decoder's second layer. -/
theorem v176_apply (s : Fin 16) (t : Fin 128) (o : Fin 128) :
    val_main_v176 (F := Ideal) a.x a.y a.xt a.eps a.w1 a.b1 a.w2 a.b2 a.we1 a.be1 a.we2 a.be2 a.wh a.bh a.wmu a.bmu
      a.wsig a.bsig a.wd1 a.bd1 a.wd2 a.bd2 (ix3 s t o) = dec2 a s t o := by
  pointwise [val_main_v176, val_main_v175, val_main_v174, val_main_v173, val_main_v172, val_main_call7_v0, val_main_call7_cst]
  simp only [v171_apply]
  rfl

/-- The predicted picture's mean. -/
theorem v180_apply (s : Fin 16) (t : Fin 128) (o : Fin 2500) :
    val_main_v180 (F := Ideal) a.x a.y a.xt a.eps a.w1 a.b1 a.w2 a.b2 a.we1 a.be1 a.we2 a.be2 a.wh a.bh a.wmu a.bmu
      a.wsig a.bsig a.wd1 a.bd1 a.wd2 a.bd2 a.wdmu a.bdmu (ix3 s t o) = ymu a s t o := by
  pointwise [val_main_v180, val_main_v179, val_main_v178, val_main_v177]
  simp only [v176_apply]
  rfl

/-- The predicted picture's deviation before the last activation. -/
theorem v184_apply (s : Fin 16) (t : Fin 128) (o : Fin 2500) :
    val_main_v184 (F := Ideal) a.x a.y a.xt a.eps a.w1 a.b1 a.w2 a.b2 a.we1 a.be1 a.we2 a.be2 a.wh a.bh a.wmu a.bmu
      a.wsig a.bsig a.wd1 a.bd1 a.wd2 a.bd2 a.wdsig a.bdsig (ix3 s t o) = ypre a s t o := by
  pointwise [val_main_v184, val_main_v183, val_main_v182, val_main_v181]
  simp only [v176_apply]
  rfl

/-- The predicted picture's deviation. -/
theorem v189_apply (s : Fin 16) (t : Fin 128) (o : Fin 2500) :
    val_main_v189 (F := Ideal) a.x a.y a.xt a.eps a.w1 a.b1 a.w2 a.b2 a.we1 a.be1 a.we2 a.be2 a.wh a.bh a.wmu a.bmu
      a.wsig a.bsig a.wd1 a.bd1 a.wd2 a.bd2 a.wdsig a.bdsig (ix3 s t o) = ysig a s t o := by
  pointwise [val_main_v189, val_main_v188, val_main_v187, val_main_v186, val_main_v185, val_main_call8_v11,
    val_main_call8_v10, val_main_call8_v9, val_main_call8_v8, val_main_call8_v7, val_main_call8_v6, val_main_call8_v5,
    val_main_call8_v4, val_main_call8_v3, val_main_call8_v2, val_main_call8_v1, val_main_call8_v0, val_main_call8_cst,
    val_main_cst_8, val_main_cst_9]
  rw [if_neg (fun h => h rfl)]
  simp only [v184_apply]
  rfl

end Cert.ReferenceIdeal.Entry
end
-- ==== Proof.RefValue.lean ====
/-
The reference's four results, as whole arrays.
-/
module

public import proofs.«01_k».proof.Proof.Results
public import proofs.«01_k».proof.Proof.RefDecoder
public import proofs.«01_k».proof.Proof.Gen.ReferenceIdeal.Run

@[expose] public section

set_option maxRecDepth 16384

noncomputable section

namespace Cert.ReferenceIdeal.Entry

open Cert.ReferenceIdeal Cert.ReferenceIdeal.Gen Cert.ReferenceIdeal.Read Cert.Spec
open Idealize.ShloMosaic Idealize.SL.Sem
open Idealize.ShloMosaic.StableHlo

variable (a : Args)

theorem v180_eq : val_main_v180 (F := Ideal) a.x a.y a.xt a.eps a.w1 a.b1 a.w2 a.b2 a.we1 a.be1 a.we2 a.be2 a.wh a.bh
    a.wmu a.bmu a.wsig a.bsig a.wd1 a.bd1 a.wd2 a.bd2 a.wdmu a.bdmu = yRes a :=
  funext fun (j : (⟨3, ![16, 128, 2500]⟩ : Shape).Idx) => by
    idx_vars j
    exact v180_apply a j0 j1 j2

theorem v189_eq : val_main_v189 (F := Ideal) a.x a.y a.xt a.eps a.w1 a.b1 a.w2 a.b2 a.we1 a.be1 a.we2 a.be2 a.wh a.bh
    a.wmu a.bmu a.wsig a.bsig a.wd1 a.bd1 a.wd2 a.bd2 a.wdsig a.bdsig = vRes a :=
  funext fun (j : (⟨3, ![16, 128, 2500]⟩ : Shape).Idx) => by
    idx_vars j
    exact v189_apply a j0 j1 j2

theorem v147_eq : val_main_v147 (F := Ideal) a.x a.y a.w1 a.b1 a.w2 a.b2 a.we1 a.be1 a.we2 a.be2 a.wh a.bh a.wmu a.bmu
    = muRes a :=
  funext fun (j : (⟨2, ![16, 64]⟩ : Shape).Idx) => by
    idx_vars j
    exact v147_apply a j0 j1

theorem v161_eq : val_main_v161 (F := Ideal) a.x a.y a.w1 a.b1 a.w2 a.b2 a.we1 a.be1 a.we2 a.be2 a.wh a.bh a.wsig
    a.bsig = sgRes a :=
  funext fun (j : (⟨2, ![16, 64]⟩ : Shape).Idx) => by
    idx_vars j
    exact v161_apply a j0 j1

/-- The problem's arrays, as the reference's launch finds them. -/
def refArgs (m : (ℓ : Loc nD τ sig) → Buf (Elt Ideal) ℓ) (c : Dev nD) : Args where
  x := m ((c.tc : Thread nD τ).loc main_arg0)
  y := m ((c.tc : Thread nD τ).loc main_arg1)
  xt := m ((c.tc : Thread nD τ).loc main_arg2)
  eps := m ((c.tc : Thread nD τ).loc main_arg3)
  w1 := m ((c.tc : Thread nD τ).loc main_arg4)
  b1 := m ((c.tc : Thread nD τ).loc main_arg5)
  w2 := m ((c.tc : Thread nD τ).loc main_arg6)
  b2 := m ((c.tc : Thread nD τ).loc main_arg7)
  we1 := m ((c.tc : Thread nD τ).loc main_arg8)
  be1 := m ((c.tc : Thread nD τ).loc main_arg9)
  we2 := m ((c.tc : Thread nD τ).loc main_arg10)
  be2 := m ((c.tc : Thread nD τ).loc main_arg11)
  wh := m ((c.tc : Thread nD τ).loc main_arg12)
  bh := m ((c.tc : Thread nD τ).loc main_arg13)
  wmu := m ((c.tc : Thread nD τ).loc main_arg14)
  bmu := m ((c.tc : Thread nD τ).loc main_arg15)
  wsig := m ((c.tc : Thread nD τ).loc main_arg16)
  bsig := m ((c.tc : Thread nD τ).loc main_arg17)
  wd1 := m ((c.tc : Thread nD τ).loc main_arg18)
  bd1 := m ((c.tc : Thread nD τ).loc main_arg19)
  wd2 := m ((c.tc : Thread nD τ).loc main_arg20)
  bd2 := m ((c.tc : Thread nD τ).loc main_arg21)
  wdmu := m ((c.tc : Thread nD τ).loc main_arg22)
  bdmu := m ((c.tc : Thread nD τ).loc main_arg23)
  wdsig := m ((c.tc : Thread nD τ).loc main_arg24)
  bdsig := m ((c.tc : Thread nD τ).loc main_arg25)

end Cert.ReferenceIdeal.Entry
end
-- ==== Proof.Algebraic.lean ====
/-
The value claim: from memories that agree on the arguments, and hold real context positions with real
weights, the idealised kernel and the reference end with equal results.
-/
module

public import proofs.«01_k».proof.Defs
public import proofs.«01_k».proof.Proof.KernelIdeal.Frame
public import proofs.«01_k».proof.Proof.Precondition
public import proofs.«01_k».proof.Proof.RefValue

@[expose] public section

set_option maxRecDepth 16384

noncomputable section

namespace Cert.Algebraic

open Cert.Spec
open Idealize.ShloMosaic Idealize.ShloMosaic.StableHlo Idealize.SL.Sem
open Cert.ReferenceIdeal.Entry Cert.ReferenceIdeal.Read

local instance : Cert.Pre_finite_x_and_w1.Facts := Cert.Precondition.facts

/-- Memories that agree on the arguments hold the same arrays. -/
theorem args_eq (m : (ℓ : Loc Cert.KernelIdeal.nD Cert.KernelIdeal.τ Cert.KernelIdeal.sig) → Buf (Elt Ideal) ℓ)
    (c : Dev Cert.KernelIdeal.nD) (a : Args)
    (h : a.x = (Cert.KernelIdeal.Entry.argsOf m c).x ∧ a.y = (Cert.KernelIdeal.Entry.argsOf m c).y
      ∧ a.xt = (Cert.KernelIdeal.Entry.argsOf m c).xt ∧ a.eps = (Cert.KernelIdeal.Entry.argsOf m c).eps
      ∧ a.w1 = (Cert.KernelIdeal.Entry.argsOf m c).w1 ∧ a.b1 = (Cert.KernelIdeal.Entry.argsOf m c).b1
      ∧ a.w2 = (Cert.KernelIdeal.Entry.argsOf m c).w2 ∧ a.b2 = (Cert.KernelIdeal.Entry.argsOf m c).b2
      ∧ a.we1 = (Cert.KernelIdeal.Entry.argsOf m c).we1 ∧ a.be1 = (Cert.KernelIdeal.Entry.argsOf m c).be1
      ∧ a.we2 = (Cert.KernelIdeal.Entry.argsOf m c).we2 ∧ a.be2 = (Cert.KernelIdeal.Entry.argsOf m c).be2
      ∧ a.wh = (Cert.KernelIdeal.Entry.argsOf m c).wh ∧ a.bh = (Cert.KernelIdeal.Entry.argsOf m c).bh
      ∧ a.wmu = (Cert.KernelIdeal.Entry.argsOf m c).wmu ∧ a.bmu = (Cert.KernelIdeal.Entry.argsOf m c).bmu
      ∧ a.wsig = (Cert.KernelIdeal.Entry.argsOf m c).wsig ∧ a.bsig = (Cert.KernelIdeal.Entry.argsOf m c).bsig
      ∧ a.wd1 = (Cert.KernelIdeal.Entry.argsOf m c).wd1 ∧ a.bd1 = (Cert.KernelIdeal.Entry.argsOf m c).bd1
      ∧ a.wd2 = (Cert.KernelIdeal.Entry.argsOf m c).wd2 ∧ a.bd2 = (Cert.KernelIdeal.Entry.argsOf m c).bd2
      ∧ a.wdmu = (Cert.KernelIdeal.Entry.argsOf m c).wdmu ∧ a.bdmu = (Cert.KernelIdeal.Entry.argsOf m c).bdmu
      ∧ a.wdsig = (Cert.KernelIdeal.Entry.argsOf m c).wdsig ∧ a.bdsig = (Cert.KernelIdeal.Entry.argsOf m c).bdsig) :
    a = Cert.KernelIdeal.Entry.argsOf m c := by
  generalize Cert.KernelIdeal.Entry.argsOf m c = b at h
  cases a; cases b
  simpa only [Args.mk.injEq] using h

/-- The idealised kernel runs: it ends with the four results. -/
theorem kernel_results (m : (ℓ : Loc Cert.KernelIdeal.nD Cert.KernelIdeal.τ Cert.KernelIdeal.sig) → Buf (Elt Ideal) ℓ)
    (hpre : Pre_KernelIdeal_finite_x_and_w1 m)
    {r : PUnit × MemSt Cert.KernelIdeal.nD Cert.KernelIdeal.τ Cert.KernelIdeal.sig (Elt Ideal)}
    (h : Cert.KernelIdeal.Launch.Post m r) (c : Dev Cert.KernelIdeal.nD) :
    r.2.mem ((c.tc : Thread Cert.KernelIdeal.nD Cert.KernelIdeal.τ).loc Cert.KernelIdeal.main_v46_0)
        = yRes (Cert.KernelIdeal.Entry.argsOf m c)
      ∧ r.2.mem ((c.tc : Thread Cert.KernelIdeal.nD Cert.KernelIdeal.τ).loc Cert.KernelIdeal.main_v46_1)
        = vRes (Cert.KernelIdeal.Entry.argsOf m c)
      ∧ r.2.mem ((c.tc : Thread Cert.KernelIdeal.nD Cert.KernelIdeal.τ).loc Cert.KernelIdeal.main_v47)
        = muRes (Cert.KernelIdeal.Entry.argsOf m c)
      ∧ r.2.mem ((c.tc : Thread Cert.KernelIdeal.nD Cert.KernelIdeal.τ).loc Cert.KernelIdeal.main_v48)
        = sgRes (Cert.KernelIdeal.Entry.argsOf m c) :=
  have hf := Cert.Precondition.finite hpre c
  ⟨(h.at c _ (by decide)).trans (Cert.KernelIdeal.Entry.end_y m c hf),
    (h.at c _ (by decide)).trans (Cert.KernelIdeal.Entry.end_v m c hf),
    (h.at c _ (by decide)).trans (Cert.KernelIdeal.Entry.end_mu m c hf),
    (h.at c _ (by decide)).trans (Cert.KernelIdeal.Entry.end_sg m c hf)⟩

/-- The idealised kernel's four results are the reference's. -/
theorem algebraic : Cert.algebraic_KernelIdeal_ReferenceIdeal_pre_finite_x_and_w1 := by
  intro m g m' g' hpre hag
  refine ⟨fun c => yRes (Cert.KernelIdeal.Entry.argsOf m c), fun c => vRes (Cert.KernelIdeal.Entry.argsOf m c),
    fun c => muRes (Cert.KernelIdeal.Entry.argsOf m c), fun c => sgRes (Cert.KernelIdeal.Entry.argsOf m c), ?_, ?_⟩
  · refine (θ_run Cert.KernelIdeal.defs _ _).mono (fun r h c => ?_) (Cert.KernelIdeal.Launch.run_main m g)
    obtain ⟨k0, k1, k2, k3⟩ := kernel_results m hpre h c
    exact ⟨k0, k1, k2, k3, Cert.KernelIdeal.Launch.args m h c⟩
  · refine (θ_run Cert.ReferenceIdeal.defs _ _).mono (fun r h c => ?_) (Cert.ReferenceIdeal.Value.run (F := Ideal) m' g')
    have e := args_eq m c (refArgs m' c) (hag c)
    refine ⟨(h c).1.trans ?_, (h c).2.1.trans ?_, (h c).2.2.1.trans ?_, (h c).2.2.2.1.trans ?_, (h c).2.2.2.2⟩
    · exact (val_main_v180_eq (launchContents m' c)).trans ((v180_eq (refArgs m' c)).trans (congrArg yRes e))
    · exact (val_main_v189_eq (launchContents m' c)).trans ((v189_eq (refArgs m' c)).trans (congrArg vRes e))
    · exact (val_main_v147_eq (launchContents m' c)).trans ((v147_eq (refArgs m' c)).trans (congrArg muRes e))
    · exact (val_main_v161_eq (launchContents m' c)).trans ((v161_eq (refArgs m' c)).trans (congrArg sgRes e))

end Cert.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference runs, keeps its arguments, and ends with every semaphore at zero. -/
theorem reference_frame : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

/-- The certificate: the side conditions, the frames, the named constant, and the equality of results. -/
theorem claim : Cert.Claim := ⟨Cert.Kernel.Gen.facts, Cert.KernelIdeal.Gen.facts, Cert.ReferenceIdeal.Gen.facts,
  Cert.Precondition.facts,
  fun m g _ => Cert.Kernel.Launch.frame m g,
  fun m g _ => Cert.KernelIdeal.Launch.frame m g,
  fun m g _ => Cert.KernelIdeal.Launch.frame m g,
  reference_frame,
  fun m g _ => reference_frame m g trivial,
  IdealRules.named_const.statement Cert.KernelIdeal.κ "inv_n" .f32 0x39D1B717#32 ((1 / 2500 : ℝ) : EReal) rfl,
  Cert.Algebraic.algebraic⟩

end Cert.Proof

end
